-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![2, 2048, 768]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = Layout.block ⟨3, ![2, 512, 768]⟩ ⟨3, ![2, 2048, 768]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x768 : Shape := ⟨3, ![2, 512, 768]⟩
abbrev S768x512 : Shape := ⟨2, ![768, 512]⟩
abbrev S2x512x32x64 : Shape := ⟨4, ![2, 512, 32, 64]⟩
abbrev S512x768 : Shape := ⟨2, ![512, 768]⟩
abbrev S2x512x2048 : Shape := ⟨3, ![2, 512, 2048]⟩
abbrev S4x768x512 : Shape := ⟨3, ![4, 768, 512]⟩
abbrev S4x512x768 : Shape := ⟨3, ![4, 512, 768]⟩
abbrev S3 : Shape := ⟨1, ![3]⟩
abbrev S2 : Shape := ⟨1, ![2]⟩
abbrev S_ : Shape := ⟨0, ![]⟩
abbrev S1 : Shape := ⟨1, ![1]⟩
abbrev S1x768x512 : Shape := ⟨3, ![1, 768, 512]⟩
abbrev S1x512x768 : Shape := ⟨3, ![1, 512, 768]⟩
abbrev S512x512 : Shape := ⟨2, ![512, 512]⟩
abbrev S1x512x512 : Shape := ⟨3, ![1, 512, 512]⟩
abbrev S512x64 : Shape := ⟨2, ![512, 64]⟩
abbrev S512 : Shape := ⟨1, ![512]⟩
abbrev S512x1 : Shape := ⟨2, ![512, 1]⟩

abbrev nBuf : Space → Nat
  | .hbm => 13
  | .vmem => 8
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x32x64, .f32⟩
  | .hbm, ⟨3, _⟩ => ⟨S2x512x32x64, .f32⟩
  | .hbm, ⟨4, _⟩ => ⟨S512x768, .f32⟩
  | .hbm, ⟨5, _⟩ => ⟨S2x512x2048, .f32⟩
  | .hbm, ⟨6, _⟩ => ⟨S2x512x2048, .bf16⟩
  | .hbm, ⟨7, _⟩ => ⟨S2x512x2048, .f32⟩
  | .hbm, ⟨8, _⟩ => ⟨S2x512x2048, .bf16⟩
  | .hbm, ⟨9, _⟩ => ⟨S2x512x768, .bf16⟩
  | .hbm, ⟨10, _⟩ => ⟨S768x512, .bf16⟩
  | .hbm, ⟨11, _⟩ => ⟨S512x768, .bf16⟩
  | .hbm, ⟨12, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S2x512x2048, .bf16⟩
  | .local _ .vmem, ⟨3, _⟩ => ⟨S2x512x2048, .bf16⟩
  | .local _ .vmem, ⟨4, _⟩ => ⟨S512x768, .bf16⟩
  | .local _ .vmem, ⟨5, _⟩ => ⟨S2x512x768, .f32⟩
  | .local _ .vmem, ⟨6, _⟩ => ⟨S4x768x512, .bf16⟩
  | .local _ .vmem, ⟨7, _⟩ => ⟨S4x512x768, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_69 : BitVec 32 := 1#32
  let v140 : BitVec 32 := Scalar.muli v24 c1_i32_69
  let v141 : BitVec 32 := Scalar.addi c0_i32_70 v140
  v141.toNat
def k0_dev4 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_79 : BitVec 32 := 1#32
  let v150 : BitVec 32 := Scalar.muli v24 c1_i32_79
  let v151 : BitVec 32 := Scalar.addi c0_i32_80 v150
  v151.toNat
def k0_off1 (d0 : Dev nD) (c0_i32_85 : BitVec 32) : Fin 3 → Nat :=
  let c0_96 : Index := 0#32
  let c0_97 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v160 : BitVec 32 := Scalar.subi v2 c0_i32_85
  let c4_i32_86 : BitVec 32 := 4#32
  let c0_i32_87 : BitVec 32 := 0#32
  let v161 : BitVec 1 := Scalar.cmpi .eq c4_i32_86 c0_i32_87
  let c1_i32_88 : BitVec 32 := 1#32
  let v162 : BitVec 32 := Scalar.select v161 c1_i32_88 c4_i32_86
  let v163 : BitVec 32 := Scalar.remsi v160 v162
  let c0_i32_90 : BitVec 32 := 0#32
  let v165 : BitVec 1 := Scalar.cmpi .slt v163 c0_i32_90
  let c0_i32_91 : BitVec 32 := 0#32
  let v166 : BitVec 1 := Scalar.cmpi .slt v162 c0_i32_91
  let v167 : BitVec 1 := Scalar.xori v165 v166
  let c0_i32_89 : BitVec 32 := 0#32
  let v164 : BitVec 1 := Scalar.cmpi .ne v163 c0_i32_89
  let v168 : BitVec 1 := Scalar.andi v167 v164
  let v169 : BitVec 32 := Scalar.addi v163 v162
  let v170 : BitVec 32 := Scalar.select v168 v169 v163
  let c512_i32 : BitVec 32 := 512#32
  let v171 : BitVec 32 := Scalar.muli v170 c512_i32
  let v176 : Index := Scalar.indexCast v171
  ![0, 0, v176.toNat]
def k0_off2 (d0 : Dev nD) (c0_i32_85 : BitVec 32) : Fin 3 → Nat :=
  let c1_156 : Index := 1#32
  let c0_157 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v160 : BitVec 32 := Scalar.subi v2 c0_i32_85
  let c4_i32_86 : BitVec 32 := 4#32
  let c0_i32_87 : BitVec 32 := 0#32
  let v161 : BitVec 1 := Scalar.cmpi .eq c4_i32_86 c0_i32_87
  let c1_i32_88 : BitVec 32 := 1#32
  let v162 : BitVec 32 := Scalar.select v161 c1_i32_88 c4_i32_86
  let v163 : BitVec 32 := Scalar.remsi v160 v162
  let c0_i32_90 : BitVec 32 := 0#32
  let v165 : BitVec 1 := Scalar.cmpi .slt v163 c0_i32_90
  let c0_i32_91 : BitVec 32 := 0#32
  let v166 : BitVec 1 := Scalar.cmpi .slt v162 c0_i32_91
  let v167 : BitVec 1 := Scalar.xori v165 v166
  let c0_i32_89 : BitVec 32 := 0#32
  let v164 : BitVec 1 := Scalar.cmpi .ne v163 c0_i32_89
  let v168 : BitVec 1 := Scalar.andi v167 v164
  let v169 : BitVec 32 := Scalar.addi v163 v162
  let v170 : BitVec 32 := Scalar.select v168 v169 v163
  let c512_i32 : BitVec 32 := 512#32
  let v171 : BitVec 32 := Scalar.muli v170 c512_i32
  let v351 : Index := Scalar.indexCast v171
  ![1, 0, v351.toNat]
def k0_dev5 (d0 : Dev nD) : Nat :=
  let c0_i32_255 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_254 : BitVec 32 := 1#32
  let v550 : BitVec 32 := Scalar.muli v24 c1_i32_254
  let v551 : BitVec 32 := Scalar.addi c0_i32_255 v550
  v551.toNat
def k0_dev6 (d0 : Dev nD) : Nat :=
  let c0_i32_265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_264 : BitVec 32 := 1#32
  let v560 : BitVec 32 := Scalar.muli v24 c1_i32_264
  let v561 : BitVec 32 := Scalar.addi c0_i32_265 v560
  v561.toNat
def k0_dev7 (d0 : Dev nD) : Nat :=
  let c0_i32_440 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_439 : BitVec 32 := 1#32
  let v960 : BitVec 32 := Scalar.muli v24 c1_i32_439
  let v961 : BitVec 32 := Scalar.addi c0_i32_440 v960
  v961.toNat
def k0_dev8 (d0 : Dev nD) : Nat :=
  let c0_i32_450 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_449 : BitVec 32 := 1#32
  let v970 : BitVec 32 := Scalar.muli v24 c1_i32_449
  let v971 : BitVec 32 := Scalar.addi c0_i32_450 v970
  v971.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x2048x768 : Shape := ⟨3, ![2, 2048, 768]⟩
abbrev S768x2048 : Shape := ⟨2, ![768, 2048]⟩
abbrev S2x512x32x64 : Shape := ⟨4, ![2, 512, 32, 64]⟩
abbrev S2048x768 : Shape := ⟨2, ![2048, 768]⟩
abbrev S2x2048x2048 : Shape := ⟨3, ![2, 2048, 2048]⟩
abbrev S2x2048x32x64 : Shape := ⟨4, ![2, 2048, 32, 64]⟩
abbrev S2048 : Shape := ⟨1, ![2048]⟩
abbrev S_ : Shape := ⟨0, ![]⟩
abbrev S2048x1 : Shape := ⟨2, ![2048, 1]⟩
abbrev S512 : Shape := ⟨1, ![512]⟩
abbrev S1x512 : Shape := ⟨2, ![1, 512]⟩
abbrev S2048x512 : Shape := ⟨2, ![2048, 512]⟩
abbrev S2x32x2048x512 : Shape := ⟨4, ![2, 32, 2048, 512]⟩
abbrev S1x1x2048x512 : Shape := ⟨4, ![1, 1, 2048, 512]⟩
abbrev S2x32x2048 : Shape := ⟨3, ![2, 32, 2048]⟩
abbrev S2x32x2048x1 : Shape := ⟨4, ![2, 32, 2048, 1]⟩
abbrev S1x1x2048x1 : Shape := ⟨4, ![1, 1, 2048, 1]⟩
abbrev S2x32x64x2048 : Shape := ⟨4, ![2, 32, 64, 2048]⟩

abbrev nBuf : Space → Nat
  | .hbm => 137
  | .vmem => 0
  | .smem => 0
  | _ => 0

abbrev hbmTy0_0 (i : Nat) : BufTy := match i % 128 with
  | 0 => ⟨S2x2048x768, .f32⟩
  | 1 => ⟨S768x2048, .f32⟩
  | 2 => ⟨S2x512x32x64, .f32⟩
  | 3 => ⟨S2x512x32x64, .f32⟩
  | 4 => ⟨S2048x768, .f32⟩
  | 5 => ⟨S2x2048x2048, .f32⟩
  | 6 => ⟨S2x2048x32x64, .f32⟩
  | 7 => ⟨S2048, .i32⟩
  | 8 => ⟨S_, .i32⟩
  | 9 => ⟨S_, .i32⟩
  | 10 => ⟨S2048, .i32⟩
  | 11 => ⟨S2048, .i32⟩
  | 12 => ⟨S2048, .i32⟩
  | 13 => ⟨S_, .i32⟩
  | 14 => ⟨S2048, .i32⟩
  | 15 => ⟨S2048, .i1⟩
  | 16 => ⟨S2048, .i32⟩
  | 17 => ⟨S2048, .i32⟩
  | 18 => ⟨S_, .i32⟩
  | 19 => ⟨S2048, .i32⟩
  | 20 => ⟨S2048, .i1⟩
  | 21 => ⟨S2048, .i1⟩
  | 22 => ⟨S_, .i32⟩
  | 23 => ⟨S2048, .i32⟩
  | 24 => ⟨S2048, .i32⟩
  | 25 => ⟨S2048, .i32⟩
  | 26 => ⟨S2048x1, .i32⟩
  | 27 => ⟨S512, .i32⟩
  | 28 => ⟨S_, .i32⟩
  | 29 => ⟨S_, .i32⟩
  | 30 => ⟨S512, .i32⟩
  | 31 => ⟨S512, .i32⟩
  | 32 => ⟨S512, .i32⟩
  | 33 => ⟨S_, .i32⟩
  | 34 => ⟨S512, .i32⟩
  | 35 => ⟨S512, .i1⟩
  | 36 => ⟨S512, .i32⟩
  | 37 => ⟨S512, .i32⟩
  | 38 => ⟨S_, .i32⟩
  | 39 => ⟨S512, .i32⟩
  | 40 => ⟨S512, .i1⟩
  | 41 => ⟨S512, .i1⟩
  | 42 => ⟨S_, .i32⟩
  | 43 => ⟨S512, .i32⟩
  | 44 => ⟨S512, .i32⟩
  | 45 => ⟨S512, .i32⟩
  | 46 => ⟨S1x512, .i32⟩
  | 47 => ⟨S2048x512, .i32⟩
  | 48 => ⟨S2048x512, .i32⟩
  | 49 => ⟨S2048x512, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x512, .i32⟩
  | 57 => ⟨S1x512, .i32⟩
  | 58 => ⟨S_, .i32⟩
  | 59 => ⟨S1x512, .i32⟩
  | 60 => ⟨S1x512, .i1⟩
  | 61 => ⟨S_, .i32⟩
  | 62 => ⟨S1x512, .i32⟩
  | 63 => ⟨S1x512, .i1⟩
  | 64 => ⟨S_, .i32⟩
  | 65 => ⟨S_, .i1⟩
  | 66 => ⟨S1x512, .i1⟩
  | 67 => ⟨S1x512, .i1⟩
  | 68 => ⟨S1x512, .i1⟩
  | 69 => ⟨S1x512, .i32⟩
  | 70 => ⟨S1x512, .i32⟩
  | 71 => ⟨S1x512, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S2048x1, .i32⟩
  | 79 => ⟨S2048x1, .i32⟩
  | 80 => ⟨S_, .i32⟩
  | 81 => ⟨S2048x1, .i32⟩
  | 82 => ⟨S2048x1, .i1⟩
  | 83 => ⟨S_, .i32⟩
  | 84 => ⟨S2048x1, .i32⟩
  | 85 => ⟨S2048x1, .i1⟩
  | 86 => ⟨S_, .i32⟩
  | 87 => ⟨S_, .i1⟩
  | 88 => ⟨S2048x1, .i1⟩
  | 89 => ⟨S2048x1, .i1⟩
  | 90 => ⟨S2048x1, .i1⟩
  | 91 => ⟨S2048x1, .i32⟩
  | 92 => ⟨S2048x1, .i32⟩
  | 93 => ⟨S2048x1, .i32⟩
  | 94 => ⟨S2048x512, .i32⟩
  | 95 => ⟨S2048x512, .i32⟩
  | 96 => ⟨S2048x512, .i1⟩
  | 97 => ⟨S2048x512, .i1⟩
  | 98 => ⟨S2x32x2048x512, .f32⟩
  | 99 => ⟨S_, .f32⟩
  | 100 => ⟨S2x32x2048x512, .f32⟩
  | 101 => ⟨S2x32x2048x512, .f32⟩
  | 102 => ⟨S1x1x2048x512, .i1⟩
  | 103 => ⟨S_, .f32⟩
  | 104 => ⟨S_, .f32⟩
  | 105 => ⟨S2x32x2048x512, .i1⟩
  | 106 => ⟨S2x32x2048x512, .f32⟩
  | 107 => ⟨S2x32x2048x512, .f32⟩
  | 108 => ⟨S_, .f32⟩
  | 109 => ⟨S2x32x2048, .f32⟩
  | 110 => ⟨S2x32x2048x1, .f32⟩
  | 111 => ⟨S2x32x2048x512, .f32⟩
  | 112 => ⟨S2x32x2048x512, .f32⟩
  | 113 => ⟨S2x32x2048x512, .f32⟩
  | 114 => ⟨S_, .i1⟩
  | 115 => ⟨S2048, .i1⟩
  | 116 => ⟨S1x1x2048x1, .i1⟩
  | 117 => ⟨S_, .f32⟩
  | 118 => ⟨S2x32x2048, .f32⟩
  | 119 => ⟨S2x32x2048x1, .f32⟩
  | 120 => ⟨S_, .f32⟩
  | 121 => ⟨S_, .f32⟩
  | 122 => ⟨S2x32x2048x1, .i1⟩
  | 123 => ⟨S2x32x2048x1, .f32⟩
  | 124 => ⟨S2x32x2048x1, .f32⟩
  | 125 => ⟨S2x32x2048x512, .f32⟩
  | 126 => ⟨S2x32x2048x512, .f32⟩
  | 127 => ⟨S1x1x2048x1, .i1⟩
  | _ => ⟨S2x2048x768, .f32⟩

abbrev hbmTy0_1 (i : Nat) : BufTy := match i % 128 with
  | 0 => ⟨S_, .f32⟩
  | 1 => ⟨S_, .f32⟩
  | 2 => ⟨S2x32x2048x512, .i1⟩
  | 3 => ⟨S2x32x2048x512, .f32⟩
  | 4 => ⟨S2x32x2048x512, .f32⟩
  | 5 => ⟨S2x32x64x2048, .f32⟩
  | 6 => ⟨S2x2048x32x64, .f32⟩
  | 7 => ⟨S2x2048x2048, .f32⟩
  | 8 => ⟨S2x2048x768, .f32⟩
  | _ => ⟨S2x2048x768, .f32⟩

abbrev hbmTy (i : Nat) : BufTy := match i / 128 with
  | 0 => hbmTy0_0 i
  | 1 => hbmTy0_1 i
  | _ => ⟨S2x2048x768, .f32⟩

abbrev bufTy : (tb : Table) → Fin (tcTables nBuf tb) → BufTy
  | .hbm, ⟨i, _⟩ => hbmTy i
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.ProtoKernelIdeal.lean ====
/-
# The ring's protocol

Four devices in a ring. Device `c` starts with its own blocks of the query and output weights in slot 0 of two
scratch buffers of four slots; in hop `h` (0, 1, 2) it sends slot `h` of both to slot `h + 1` of the device after it
and computes with slot `h`; after the hops it computes with slot 3. So slot `k` of device `c` holds in the end the
blocks of device `c - k` (mod 4).

The semaphores, and for each who waits, who pays, how much and what it hands over:

* the barrier of device `c` (unscoped): `c` waits for 2. The device after `c` pays 1 (duty `true`) and hands over its
  landing slots 1, 2, 3 of both buffers, at any contents, and that round 0 of its receive cells is reached; the device
  before `c` pays 1 (duty `false`) and hands over nothing.
* receive cell `h` of device `c`, one per buffer: the device before `c` pays by its copy of hop `h`; handed over: slot
  `h + 1` of `c` holding the block of device `c - (h + 1)`.
* send cell `h` of device `c`, one per buffer: paid by the same copy as it leaves `c`; handed back: the half share of
  slot `h` that was lent to the copy (the other half stays with the loads).
* the two cells of the local copies: paid by `c` itself; handed over: slot 0 holding `c`'s own block, and the staging
  buffer it was copied from.

Every cell has one round. Levels: staging, local and send cells 0; barriers 1; receive cells of hop `h`: `h + 2`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Pipeline.Value
public import Idealize.ShloMosaic.Lib.Rounds
public import Idealize.ShloMosaic.Lib.Memref
public import Idealize.ShloMosaic.Lib.MemrefSat
public import Idealize.ShloMosaic.Lib.Exec.Geometry
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) and the ring's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

set_option backward.proofsInPublic true in
/-- The device after `c`. -/
def nxt (c : Dev nD) : Dev nD := ⟨(c.val + 1) % 4, Nat.mod_lt _ (by decide)⟩
set_option backward.proofsInPublic true in
/-- The device before `c`. -/
def prv (c : Dev nD) : Dev nD := ⟨(c.val + 3) % 4, Nat.mod_lt _ (by decide)⟩
set_option backward.proofsInPublic true in
/-- The device `k` places before `c`. -/
def back (c : Dev nD) (k : ℕ) : Dev nD := ⟨(c.val + 3 * k) % 4, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide
theorem back_zero (c : Dev nD) : back c 0 = c := by revert c; decide
theorem back_nxt (c : Dev nD) (h : ℕ) : back (nxt c) (h + 1) = back c h :=
  Fin.ext (by simp only [back, nxt]; omega)

theorem dev1_eq : ∀ c : Dev nD, (⟨k0_dev1 c, k0_dev1_lt c⟩ : Dev nD) = prv c := by decide +kernel
theorem dev2_eq : ∀ c : Dev nD, (⟨k0_dev2 c, k0_dev2_lt c⟩ : Dev nD) = nxt c := by decide +kernel
theorem dev3_eq : ∀ c : Dev nD, (⟨k0_dev3 c, k0_dev3_lt c⟩ : Dev nD) = nxt c := by decide +kernel
theorem dev4_eq : ∀ c : Dev nD, (⟨k0_dev4 c, k0_dev4_lt c⟩ : Dev nD) = nxt c := by decide +kernel
theorem dev5_eq : ∀ c : Dev nD, (⟨k0_dev5 c, k0_dev5_lt c⟩ : Dev nD) = nxt c := by decide +kernel
theorem dev6_eq : ∀ c : Dev nD, (⟨k0_dev6 c, k0_dev6_lt c⟩ : Dev nD) = nxt c := by decide +kernel
theorem dev7_eq : ∀ c : Dev nD, (⟨k0_dev7 c, k0_dev7_lt c⟩ : Dev nD) = nxt c := by decide +kernel
theorem dev8_eq : ∀ c : Dev nD, (⟨k0_dev8 c, k0_dev8_lt c⟩ : Dev nD) = nxt c := by decide +kernel

def ring : Dev nD ≃ Dev nD := ⟨nxt, prv, prv_nxt, nxt_prv⟩

/-! ## The slots -/

abbrev qM : Memref sig .tc .vmem S4x768x512 .bf16 := Memref.whole cc0_scratch0
abbrev oM : Memref sig .tc .vmem S4x512x768 .bf16 := Memref.whole cc0_scratch1

set_option backward.proofsInPublic true in
theorem qInb (k : Fin 4) : ∀ a, ![k.val, 0, 0] a + S1x768x512.size a ≤ S4x768x512.size a := by revert k; decide
set_option backward.proofsInPublic true in
theorem oInb (k : Fin 4) : ∀ a, ![k.val, 0, 0] a + S1x512x768.size a ≤ S4x512x768.size a := by revert k; decide
abbrev qRect (k : Fin 4) : Rect S4x768x512 := Rect.unit (s := S4x768x512) ![k.val, 0, 0] S1x768x512.size (qInb k)
abbrev oRect (k : Fin 4) : Rect S4x512x768 := Rect.unit (s := S4x512x768) ![k.val, 0, 0] S1x512x768.size (oInb k)
/-- Slot `k` of the query-weight buffer, of the output-weight buffer. -/
abbrev qSlot (k : Fin 4) : Memref sig .tc .vmem S768x512 .bf16 := (qM.slice (qRect k) (fun _ => rfl)).squeeze S768x512 squeezes_S1x768x512_S768x512
abbrev oSlot (k : Fin 4) : Memref sig .tc .vmem S512x768 .bf16 := (oM.slice (oRect k) (fun _ => rfl)).squeeze S512x768 squeezes_S1x512x768_S512x768

theorem q_sub (k : Fin 4) : qM.view.setOn (qRect k).toLoadRect.set ⊆ (qSlot k).view.set := by
  rw [Memref.set_view_squeeze]
  exact (View.set_slice qM.view (qRect k)).ge
theorem o_sub (k : Fin 4) : oM.view.setOn (oRect k).toLoadRect.set ⊆ (oSlot k).view.set := by
  rw [Memref.set_view_squeeze]
  exact (View.set_slice oM.view (oRect k)).ge

/-! ## The semaphores -/

theorem sem_lt {n : ℕ} (h : n < 20) : n < sig.nDmaSem := h

abbrev barS : Sem sig := barrier0
abbrev qsS (h : Fin 3) : DmaSem sig := ⟨6 + h.val, sem_lt (by omega)⟩
abbrev qrS (h : Fin 3) : DmaSem sig := ⟨9 + h.val, sem_lt (by omega)⟩
abbrev osS (h : Fin 3) : DmaSem sig := ⟨12 + h.val, sem_lt (by omega)⟩
abbrev orS (h : Fin 3) : DmaSem sig := ⟨15 + h.val, sem_lt (by omega)⟩
abbrev cqS : DmaSem sig := ⟨18, by decide⟩
abbrev coS : DmaSem sig := ⟨19, by decide⟩

abbrev barCell (c : Dev nD) : GSem nD τ sig := ((c : Thread nD τ), .reg barS)
abbrev dCell (c : Dev nD) (s : DmaSem sig) : GSem nD τ sig := ((c : Thread nD τ), .dma s)

/-- The kernel's own (scoped) semaphores: the 14 after the staging pipeline's six. -/
abbrev osem (i : Fin 14) : SemLoc sig := .dma ⟨6 + i.val, sem_lt (by omega)⟩

/-- The credit of one block: both blocks have as many elements. -/
abbrev N : ℕ := (qSlot 0).view.dmaCredit
theorem N_pos : 0 < N := View.dmaCredit_pos _ (by decide)
theorem q_credit (k : Fin 4) : (qSlot k).view.dmaCredit = N := rfl
theorem o_credit (k : Fin 4) : (oSlot k).view.dmaCredit = N := rfl

abbrev barEmb : Dev nD ↪ GSem nD τ sig := ⟨fun c => barCell c, fun _ _ h => congrArg (fun g : GSem nD τ sig => g.1.1) h⟩
theorem osem_inj : Function.Injective osem := by decide
theorem osem_ne_bar : ∀ k : Fin 14, osem k ≠ .reg barS := by decide
abbrev scEmb : Dev nD × Fin 14 ↪ GSem nD τ sig :=
  ⟨fun ck => ((ck.1 : Thread nD τ), osem ck.2), fun _ _ h =>
    Prod.ext (congrArg (fun g : GSem nD τ sig => g.1.1) h) (osem_inj (congrArg Prod.snd h))⟩
/-- The barrier cells; the scoped cells of the ring. -/
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem dma_mem (c : Dev nD) (s : DmaSem sig) (h : 6 ≤ s.val) : dCell c s ∈ (barCells ∪ scCells : Finset (GSem nD τ sig)) := by
  refine Finset.mem_union_right _ (Finset.mem_map.mpr ⟨(c, ⟨s.val - 6, by have : s.val < 20 := s.isLt; omega⟩), Finset.mem_univ _, ?_⟩)
  refine Prod.ext rfl ?_
  show SemLoc.dma _ = SemLoc.dma s
  exact congrArg SemLoc.dma (Fin.ext (by show 6 + (s.val - 6) = s.val; omega))

/-! ## The schedule -/

section Sched

variable (wq : Dev nD → Vec F S768x512 .bf16) (wo : Dev nD → Vec F S512x768 .bf16)

/-- A slot free to be written. -/
def qFree (c : Dev nD) (k : Fin 4) : sProp 𝕄 :=
  iprop(∃ f : Buf (Elt F) ((qSlot k).view.loc (c : Thread nD τ)), (qSlot k).view.loc (c : Thread nD τ) ↦[(qSlot k).view.set]{fullShare} f)
def oFree (c : Dev nD) (k : Fin 4) : sProp 𝕄 :=
  iprop(∃ f : Buf (Elt F) ((oSlot k).view.loc (c : Thread nD τ)), (oSlot k).view.loc (c : Thread nD τ) ↦[(oSlot k).view.set]{fullShare} f)

/-- Slot `k` of device `c`, held at the share `q`, holding `X`. -/
abbrev qOwn (c : Dev nD) (k : Fin 4) (q : PosShare TreeShare) (X : Vec F S768x512 .bf16) : sProp 𝕄 :=
  owns (c : Thread nD τ) (qSlot k) q X
abbrev oOwn (c : Dev nD) (k : Fin 4) (q : PosShare TreeShare) (X : Vec F S512x768 .bf16) : sProp 𝕄 :=
  owns (c : Thread nD τ) (oSlot k) q X

/-- A staging buffer of device `c` whole. -/
abbrev stgAt (c : Dev nD) (b : Ref sig .tc) (X : b.ty.Contents (Elt F)) : sProp 𝕄 := ((c : Thread nD τ).loc b) ↦{fullShare} X

/-- What device `d` lets the device before it write in hop `h`. -/
def grant (d : Dev nD) (h : Fin 3) : sProp 𝕄 :=
  iprop((qFree d h.succ ∗ reached ER (dCell d (qrS h)) 0) ∗ (oFree d h.succ ∗ reached ER (dCell d (orS h)) 0))

def barPay (c : Dev nD) : sProp 𝕄 := iprop(grant (nxt c) 0 ∗ grant (nxt c) 1 ∗ grant (nxt c) 2)

/-- What the DMA cell number `n` of device `c` hands over. -/
def dPay (c : Dev nD) : ℕ → sProp 𝕄
  | 6 => qOwn c 0 fullShare.right (wq (back c 0))
  | 7 => qOwn c 1 fullShare.right (wq (back c 1))
  | 8 => qOwn c 2 fullShare.right (wq (back c 2))
  | 9 => qOwn c 1 fullShare (wq (back c 1))
  | 10 => qOwn c 2 fullShare (wq (back c 2))
  | 11 => qOwn c 3 fullShare (wq (back c 3))
  | 12 => oOwn c 0 fullShare.right (wo (back c 0))
  | 13 => oOwn c 1 fullShare.right (wo (back c 1))
  | 14 => oOwn c 2 fullShare.right (wo (back c 2))
  | 15 => oOwn c 1 fullShare (wo (back c 1))
  | 16 => oOwn c 2 fullShare (wo (back c 2))
  | 17 => oOwn c 3 fullShare (wo (back c 3))
  | 18 => iprop(qOwn c 0 fullShare (wq c) ∗ stgAt c cc0_stg1_0 (wq c))
  | 19 => iprop(oOwn c 0 fullShare (wo c) ∗ stgAt c cc0_stg4_0 (wo c))
  | _ => iprop(emp)

theorem dPay_qs (c : Dev nD) (h : Fin 3) : dPay wq wo c (qsS h).val = qOwn c h.castSucc fullShare.right (wq (back c h.val)) := by
  fin_cases h <;> rfl
theorem dPay_qr (c : Dev nD) (h : Fin 3) : dPay wq wo c (qrS h).val = qOwn c h.succ fullShare (wq (back c (h.val + 1))) := by
  fin_cases h <;> rfl
theorem dPay_os (c : Dev nD) (h : Fin 3) : dPay wq wo c (osS h).val = oOwn c h.castSucc fullShare.right (wo (back c h.val)) := by
  fin_cases h <;> rfl
theorem dPay_or (c : Dev nD) (h : Fin 3) : dPay wq wo c (orS h).val = oOwn c h.succ fullShare (wo (back c (h.val + 1))) := by
  fin_cases h <;> rfl

instance qFree_storable (d : Dev nD) (k : Fin 4) : BI.Storable (upEmb : UEmb _ 𝕄) (qFree (F := F) d k) := by unfold qFree; infer_instance
instance oFree_storable (d : Dev nD) (k : Fin 4) : BI.Storable (upEmb : UEmb _ 𝕄) (oFree (F := F) d k) := by unfold oFree; infer_instance
instance grant_storable (d : Dev nD) (h : Fin 3) : BI.Storable (upEmb : UEmb _ 𝕄) (grant (F := F) d h) := by
  unfold grant; infer_instance
instance barPay_storable (c : Dev nD) : BI.Storable (upEmb : UEmb _ 𝕄) (barPay (F := F) c) := by
  unfold barPay; infer_instance
instance dPay_storable (c : Dev nD) (n : ℕ) : BI.Storable (upEmb : UEmb _ 𝕄) (dPay (F := F) wq wo c n) := by
  unfold dPay; split <;> infer_instance

/-- One round, round 0: a barrier cell has the two duties `false` (from the device before) and `true` (from the device
    after) of one unit each; each of the ring's DMA cells has the duty `false` of a block's credit. -/
def ringRd : Rounds.Schedule (GSem nD τ sig) Bool 𝕄 where
  duties g r := match g.2 with
    | .reg s => if r = 0 ∧ g.1.2 = .tc ∧ s = barS then Finset.univ else ∅
    | .dma s => if r = 0 ∧ g.1.2 = .tc ∧ 6 ≤ s.val then {false} else ∅
  unitless _ := False
  amount g _ _ := match g.2 with
    | .reg _ => 1
    | .dma _ => N
  payload g _ d := match g.2 with
    | .reg _ => if d then barPay g.1.1 else iprop(emp)
    | .dma s => dPay wq wo g.1.1 s.val
  amount_pos g _ _ _ := by
    rcases g with ⟨t, s | s⟩
    · exact Nat.one_pos
    · exact N_pos

instance ringRd_payload_storable (g : GSem nD τ sig) (r : ℕ) (d : Bool) :
    BI.Storable (upEmb : UEmb _ 𝕄) ((ringRd (F := F) wq wo).payload g r d) := by
  rcases g with ⟨t, s | s⟩
  · show BI.Storable upEmb (if d then barPay t.1 else iprop(emp))
    split <;> infer_instance
  · show BI.Storable upEmb (dPay wq wo t.1 s.val)
    infer_instance

variable (c : Dev nD)

theorem duties_bar : (ringRd (F := F) wq wo).duties (barCell c) 0 = Finset.univ := by dsimp only [ringRd]; exact if_pos ⟨rfl, rfl, rfl⟩
theorem duties_dma (s : DmaSem sig) (h : 6 ≤ s.val) : (ringRd (F := F) wq wo).duties (dCell c s) 0 = {false} := if_pos ⟨rfl, rfl, h⟩
theorem duties_later (g : GSem nD τ sig) : ∀ r, 1 ≤ r → (ringRd (F := F) wq wo).duties g r = ∅ := fun r hr => by
  rcases g with ⟨t, s | s⟩
  · exact if_neg fun h => by omega
  · exact if_neg fun h => by omega
theorem amount_bar (d : Bool) : (ringRd (F := F) wq wo).amount (barCell c) 0 d = 1 := rfl
theorem amount_dma (s : DmaSem sig) (d : Bool) : (ringRd (F := F) wq wo).amount (dCell c s) 0 d = N := rfl
theorem expect_bar : (ringRd (F := F) wq wo).expect (barCell c) 0 = 2 := by
  unfold Schedule.expect Schedule.amountOf
  rw [duties_bar, Finset.sum_congr rfl fun d _ => amount_bar wq wo c d, Finset.sum_const, Finset.card_univ, Fintype.card_bool, smul_eq_mul]
theorem expect_dma (s : DmaSem sig) (h : 6 ≤ s.val) : (ringRd (F := F) wq wo).expect (dCell c s) 0 = N := by
  unfold Schedule.expect Schedule.amountOf; rw [duties_dma wq wo c s h, Finset.sum_singleton, amount_dma]
theorem payload_bar_true : (ringRd (F := F) wq wo).payload (barCell c) 0 true = barPay c := by dsimp only [ringRd]; exact if_pos rfl
theorem payload_bar_false : (ringRd (F := F) wq wo).payload (barCell c) 0 false = iprop(emp) := by dsimp only [ringRd]; exact if_neg Bool.false_ne_true
theorem payload_dma (s : DmaSem sig) (d : Bool) : (ringRd (F := F) wq wo).payload (dCell c s) 0 d = dPay wq wo c s.val := rfl
theorem rest_bar : bigSep ((ringRd (F := F) wq wo).duties (barCell c) 0 \ ∅) (fun d => (ringRd (F := F) wq wo).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_dma (s : DmaSem sig) (h : 6 ≤ s.val) :
    bigSep ((ringRd (F := F) wq wo).duties (dCell c s) 0 \ ∅) (fun d => (ringRd (F := F) wq wo).payload (dCell c s) 0 d) = dPay wq wo c s.val := by
  rw [Finset.sdiff_empty, duties_dma wq wo c s h, bigSep_singleton, payload_dma]

end Sched

/-! ## What each core owes; the levels -/

abbrev Oq (c : Dev nD) (h : Fin 3) : CellTallies nD τ sig Unit := tallyAt (dCell (nxt c) (qrS h)) () N
abbrev Oo (c : Dev nD) (h : Fin 3) : CellTallies nD τ sig Unit := tallyAt (dCell (nxt c) (orS h)) () N

/-- The hop that has `r` hops after it. -/
abbrev hopOf (r : ℕ) : Fin 3 := ⟨2 - r, by omega⟩
/-- What device `c` owes before its last `r` hops. -/
def OR (c : Dev nD) : ℕ → CellTallies nD τ sig Unit
  | 0 => 0
  | r + 1 => OR c r + Oo c (hopOf r) + Oq c (hopOf r)
def O₁ (c : Dev nD) : CellTallies nD τ sig Unit := OR c 3 + tallyAt (barCell (nxt c)) () 1
/-- At launch: every hop, and a unit on each neighbour's barrier. -/
def O₀ (c : Dev nD) : CellTallies nD τ sig Unit := O₁ c + tallyAt (barCell (prv c)) () 1

def L (g : GSem nD τ sig) : Finset Unit := if g.1.2 = .tc then {()} else ∅
def lv (g : GSem nD τ sig) (_ : Unit) : ℕ := match g.2 with
  | .reg _ => 1
  | .dma s => if 9 ≤ s.val ∧ s.val < 12 then s.val - 7 else if 15 ≤ s.val ∧ s.val < 18 then s.val - 13 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_qr (c : Dev nD) : ∀ h : Fin 3, lv (dCell c (qrS h)) () = h.val + 2 := by
  intro h; fin_cases h <;> rfl
theorem lv_or (c : Dev nD) : ∀ h : Fin 3, lv (dCell c (orS h)) () = h.val + 2 := by
  intro h; fin_cases h <;> rfl
theorem lv_qs (c : Dev nD) : ∀ h : Fin 3, lv (dCell c (qsS h)) () = 0 := by
  intro h; fin_cases h <;> rfl
theorem lv_os (c : Dev nD) : ∀ h : Fin 3, lv (dCell c (osS h)) () = 0 := by
  intro h; fin_cases h <;> rfl

theorem tallyAt_pos {g g' : GSem nD τ sig} {n : ℕ} {u : Unit} (h : 0 < (tallyAt g' () n : CellTallies nD τ sig Unit) g u) : g = g' := by
  rw [tallyAt_apply] at h
  split at h
  · next hg => exact hg.1
  · exact absurd h (Nat.lt_irrefl 0)

theorem OR_pos {c : Dev nD} {r : ℕ} {g : GSem nD τ sig} {u : Unit} (h : 0 < OR c r g u) :
    ∃ k : Fin 3, 3 ≤ r + k.val ∧ (g = dCell (nxt c) (qrS k) ∨ g = dCell (nxt c) (orS k)) := by
  induction r with
  | zero => exact absurd h (Nat.lt_irrefl 0)
  | succ r ih =>
    unfold OR at h
    rw [Pi.add_apply, Finsupp.add_apply, Pi.add_apply, Finsupp.add_apply] at h
    rcases Nat.add_pos_iff_pos_or_pos.mp h with h | h
    · rcases Nat.add_pos_iff_pos_or_pos.mp h with h | h
      · obtain ⟨k, hk, hg⟩ := ih h
        exact ⟨k, by omega, hg⟩
      · exact ⟨hopOf r, by show 3 ≤ r + 1 + (2 - r); omega, .inr (tallyAt_pos h)⟩
    · exact ⟨hopOf r, by show 3 ≤ r + 1 + (2 - r); omega, .inl (tallyAt_pos h)⟩

theorem OR_lv {c : Dev nD} {r : ℕ} {g : GSem nD τ sig} {u : Unit} (h : 0 < OR c r g u) : u ∈ L g ∧ 5 ≤ r + lv g u := by
  obtain ⟨k, hk, rfl | rfl⟩ := OR_pos h
  · exact ⟨by rw [L_tc]; exact Finset.mem_singleton_self _, by rw [lv_qr]; omega⟩
  · exact ⟨by rw [L_tc]; exact Finset.mem_singleton_self _, by rw [lv_or]; omega⟩

theorem O₀_lv {c : Dev nD} {g : GSem nD τ sig} {u : Unit} (h : 0 < O₀ c g u) : u ∈ L g ∧ 0 < lv g u := by
  unfold O₀ O₁ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨h1, h2⟩ := OR_lv h
      exact ⟨h1, by omega⟩
    · obtain rfl := tallyAt_pos h
      exact ⟨by rw [L_tc]; exact Finset.mem_singleton_self _, Nat.one_pos⟩
  · obtain rfl := tallyAt_pos h
    exact ⟨by rw [L_tc]; exact Finset.mem_singleton_self _, Nat.one_pos⟩

/-- A device that owes its last `r` hops may wait on a cell below them. -/
theorem mayWait_OR (c : Dev nD) (sm : SemLoc sig) (r : ℕ) (h : lv ((c : Thread nD τ), sm) () + r < 5) :
    (levAts L lv : sProp 𝕄) ⊢ MayWait (c : Thread nD τ) sm () (OR c r) :=
  MayOwe.of_cut (L := L) (lev := lv) (4 - r) (fun p hp => by rw [Finset.mem_singleton.mp hp, L_tc]; exact Finset.mem_singleton_self _)
    (fun g u hg => (OR_lv hg).1)
    (fun p hp => by rw [Finset.mem_singleton.mp hp]; show lv ((c : Thread nD τ), sm) () ≤ 4 - r; omega)
    (fun g u hg => by have := (OR_lv hg).2; omega)

/-! ## The records every device may consult -/

section Rules

variable (wq : Dev nD → Vec F S768x512 .bf16) (wo : Dev nD → Vec F S512x768 .bf16)

def invs (K : GSem nD τ sig → ℕ) : sProp 𝕄 := bigSep (barCells ∪ scCells) fun g => cellInv ER (ringRd wq wo) (K g) g
instance invs_persistent (K : GSem nD τ sig → ℕ) : BI.Persistent (invs wq wo K) := by unfold invs; infer_instance
theorem inv_bar (K : GSem nD τ sig → ℕ) (c : Dev nD) : invs wq wo K ⊢ cellInv ER (ringRd wq wo) (K (barCell c)) (barCell c) :=
  bigSep_elim (bar_mem c)
theorem inv_dma (K : GSem nD τ sig → ℕ) (c : Dev nD) (s : DmaSem sig) (h : 6 ≤ s.val) :
    invs wq wo K ⊢ cellInv ER (ringRd wq wo) (K (dCell c s)) (dCell c s) := bigSep_elim (dma_mem c s h)

abbrev 𝒱₀ : Variants := Variants.none

variable (K : GSem nD τ sig → ℕ) (c : Dev nD)

local notation "wpc" => wp frame (wpE (defs₀ (F := F)) 𝒱₀ (c : Thread nD τ) none) Set.univ

/-- What a copy writes over a memref, the memref owns. -/
theorem owns_landed (d : Dev nD) {sp : Space} {s : Shape} {e : EltTy} (m : Memref sig .tc sp s e) (fd : Buf (Elt F) (m.view.loc (d : Thread nD τ)))
    (X : s.Idx → Elt F e) :
    (m.view.loc (d : Thread nD τ) ↦[m.view.set]{fullShare} (m.view.write (Elt F) fd X Finset.univ) : sProp 𝕄) ⊢ owns (d : Thread nD τ) m fullShare X :=
  (owns_intro (d : Thread nD τ) m fullShare _).trans (Entails.of_eq (congrArg _ (View.read_write_univ fd X)))

/-- A wait on one of the ring's own DMA cells for its one round, the cell closed at once: what it hands over, and its
    counter at zero. -/
theorem wp_wait_close {sp sp' : Space} {s s' : Shape} {e e' : EltTy} (sem : DmaSem sig) (h6 : 6 ≤ sem.val)
    {src : Memref sig .tc sp' s' e'} {κ' : Kind} {dst : Memref sig κ' sp s e} {hsrc : src.view.WordExact} {hdst : dst.view.WordExact}
    (hN : dst.view.dmaCredit = N) (r : ℕ) (hlv : lv (dCell c sem) () + r < 5) {W : Waits sig Unit} {α : Type} {Q : α → sProp 𝕄}
    {k : PUnit → Prog (TpuEff nD τ sig (Elt F) Λ₀ .tc) α} :
    iprop(invs wq wo K ∗ levAts L lv ∗ cred (tallyAt (dCell c sem) () N) ∗ owes (c : Thread nD τ) (OR c r) W ∗ atPos ER (dCell c sem) 0 ∅ 0)
      ⊢ iprop((((∃ W, owes (c : Thread nD τ) (OR c r) W) ∗ semVal (dCell c sem) 0 ∗ dPay wq wo c sem.val) -∗ wpc (k ⟨⟩) Q)
        -∗ wpc (.op (.waitDma2 sem src dst hsrc hdst) k) Q) := by
  iintro ⟨#HI, #Hlev, Hc, HO, Hat⟩ Hk
  iapply (Rounds.wp_wait_rest_token 𝒱₀ ER (ringRd wq wo) (c : Thread nD τ) none (κ := K (dCell c sem))
      (wpE_waitDma2_eq 𝒱₀ (c : Thread nD τ) none Set.univ) (Set.mem_univ _) () (O := OR c r) (W := W) (R := 0) (m := 0) (T := ∅)
      (by rw [hN, Nat.zero_add]; exact (expect_dma wq wo c sem h6).symm)) $$ [Hc HO Hat]
  · isplitr; · iapply (inv_dma wq wo K c sem h6); iexact HI
    isplitl [Hc]; · rw [hN]; iexact Hc
    isplitl [HO]; · iexact HO
    isplitr; · iapply (mayWait_OR c (.dma sem) r hlv); iexact Hlev
    iexact Hat
  iintro ⟨HO, Hat, -, Hpay⟩
  ihave Hp := (Entails.of_eq (rest_dma wq wo c sem h6)) $$ Hpay
  imod (Rounds.cell_close ER (ringRd wq wo) (g := dCell c sem) (Set.mem_univ (K (dCell c sem))) id (R := 0 + 1) (duties_later wq wo (dCell c sem))) $$ [Hat] with Hz
  · isplitr; · iapply (inv_dma wq wo K c sem h6); iexact HI
    iexact Hat
  iapply Hk
  isplitl [HO]; · iexists _; iexact HO
  isplitl [Hz]; · iexact Hz
  iexact Hp

/-- The copy of hop `h` of the query weights: the half share of slot `h` lent, slot `h + 1` of the next device written. -/
theorem wp_sendQ (h : Fin 3) (n : Dev nD) (hn : n = nxt c) {hsc : (qSlot h.succ : Memref sig (Dev.tc n : Thread nD τ).2.kind .vmem S768x512 .bf16).view.ref.isScScratch = false}
    {hsrc : (qSlot h.castSucc).view.WordExact} {hdst : (qSlot h.succ).view.WordExact}
    {hsem : DmaTarget.Typed .vmem (.dma (qrS h)) (.remote (Dev.tc n : Thread nD τ) (qSlot h.succ) (.dma (qsS h)) hsc)}
    (O : CellTallies nD τ sig Unit) {W : Waits sig Unit} {α : Type} {Q : α → sProp 𝕄} {k : PUnit → Prog (TpuEff nD τ sig (Elt F) Λ₀ .tc) α} :
    iprop(invs wq wo K ∗ qOwn c h.castSucc fullShare (wq (back c h.val)) ∗ (qFree (nxt c) h.succ ∗ reached ER (dCell (nxt c) (qrS h)) 0)
        ∗ owes (c : Thread nD τ) (O + Oq c h) W
        ∗ (dutyTok ER (dCell c (qsS h)) 0 false ∗ reached ER (dCell c (qsS h)) 0) ∗ dutyTok ER (dCell (nxt c) (qrS h)) 0 false)
      ⊢ iprop(((qOwn c h.castSucc fullShare.left (wq (back c h.val)) ∗ cred (tallyAt (dCell c (qsS h)) () N) ∗ owes (c : Thread nD τ) O W) -∗ wpc (k ⟨⟩) Q)
          -∗ wpc (.op (.enqueueDma (qSlot h.castSucc) (.remote (Dev.tc n : Thread nD τ) (qSlot h.succ) (.dma (qsS h)) hsc) (.dma (qrS h)) hsrc hdst hsem) k) Q) := by
  subst hn
  iintro ⟨#HI, Hs, ⟨Hfree, #HrV⟩, HO, ⟨HtS, #HrS⟩, HtV⟩ Hk
  ihave Hs2 := (owns_halves (c : Thread nD τ) (qSlot h.castSucc) fullShare (wq (back c h.val))).1 $$ Hs
  icases Hs2 with ⟨Hl, Hr⟩
  unfold qOwn owns qFree
  icases Hr with ⟨%fs, %hfs, Hr⟩
  icases Hfree with ⟨%fd, Hd⟩
  iapply (Rounds.wp_send_pointsTo 𝒱₀ ER (ringRd wq wo) (c : Thread nD τ) none (c' := (nxt c : Thread nD τ)) (src := qSlot h.castSucc) (dst := qSlot h.succ)
      (sS := .dma (qsS h)) (sem := .dma (qrS h)) (q := fullShare.right) (fs := fs) (κ₁ := K (dCell c (qsS h))) (κ₂ := K (dCell (nxt c) (qrS h)))
      (r₁ := 0) (r₂ := 0) (d₁ := false) (d₂ := false) (fd := fd)
      (by rw [duties_dma wq wo c _ (by show 6 ≤ 6 + h.val; omega)]; exact Finset.mem_singleton_self _)
      (by rw [duties_dma wq wo (nxt c) _ (by show 6 ≤ 9 + h.val; omega)]; exact Finset.mem_singleton_self _)
      () () N rfl rfl rfl O rfl (W := W)
      (by rw [payload_dma, dPay_qs]; unfold qOwn owns; iintro H; iexists fs; isplitr
          · ipureintro; exact hfs
          · iexact H)
      (by rw [payload_dma, dPay_qr, back_nxt, ← hfs]; exact owns_landed (nxt c) (qSlot h.succ) fd _)) $$ [Hr Hd HO HtS HtV]
  · isplitr; · iapply (inv_dma wq wo K c (qsS h) (by show 6 ≤ 6 + h.val; omega)); iexact HI
    isplitr; · iapply (inv_dma wq wo K (nxt c) (qrS h) (by show 6 ≤ 9 + h.val; omega)); iexact HI
    isplitl [Hr]; · iexact Hr
    isplitl [Hd]; · iexact Hd
    isplitl [HO]; · iexact HO
    isplitl [HtS]; · iexact HtS
    isplitr; · iexact HrS
    isplitl [HtV]; · iexact HtV
    iexact HrV
  iintro ⟨HcS, HO⟩
  iapply Hk
  isplitl [Hl]; · iexact Hl
  isplitl [HcS]; · iexact HcS
  iexact HO

/-- The copy of hop `h` of the output weights. -/
theorem wp_sendO (h : Fin 3) (n : Dev nD) (hn : n = nxt c) {hsc : (oSlot h.succ : Memref sig (Dev.tc n : Thread nD τ).2.kind .vmem S512x768 .bf16).view.ref.isScScratch = false}
    {hsrc : (oSlot h.castSucc).view.WordExact} {hdst : (oSlot h.succ).view.WordExact}
    {hsem : DmaTarget.Typed .vmem (.dma (orS h)) (.remote (Dev.tc n : Thread nD τ) (oSlot h.succ) (.dma (osS h)) hsc)}
    (O : CellTallies nD τ sig Unit) {W : Waits sig Unit} {α : Type} {Q : α → sProp 𝕄} {k : PUnit → Prog (TpuEff nD τ sig (Elt F) Λ₀ .tc) α} :
    iprop(invs wq wo K ∗ oOwn c h.castSucc fullShare (wo (back c h.val)) ∗ (oFree (nxt c) h.succ ∗ reached ER (dCell (nxt c) (orS h)) 0)
        ∗ owes (c : Thread nD τ) (O + Oo c h) W
        ∗ (dutyTok ER (dCell c (osS h)) 0 false ∗ reached ER (dCell c (osS h)) 0) ∗ dutyTok ER (dCell (nxt c) (orS h)) 0 false)
      ⊢ iprop(((oOwn c h.castSucc fullShare.left (wo (back c h.val)) ∗ cred (tallyAt (dCell c (osS h)) () N) ∗ owes (c : Thread nD τ) O W) -∗ wpc (k ⟨⟩) Q)
          -∗ wpc (.op (.enqueueDma (oSlot h.castSucc) (.remote (Dev.tc n : Thread nD τ) (oSlot h.succ) (.dma (osS h)) hsc) (.dma (orS h)) hsrc hdst hsem) k) Q) := by
  subst hn
  iintro ⟨#HI, Hs, ⟨Hfree, #HrV⟩, HO, ⟨HtS, #HrS⟩, HtV⟩ Hk
  ihave Hs2 := (owns_halves (c : Thread nD τ) (oSlot h.castSucc) fullShare (wo (back c h.val))).1 $$ Hs
  icases Hs2 with ⟨Hl, Hr⟩
  unfold oOwn owns oFree
  icases Hr with ⟨%fs, %hfs, Hr⟩
  icases Hfree with ⟨%fd, Hd⟩
  iapply (Rounds.wp_send_pointsTo 𝒱₀ ER (ringRd wq wo) (c : Thread nD τ) none (c' := (nxt c : Thread nD τ)) (src := oSlot h.castSucc) (dst := oSlot h.succ)
      (sS := .dma (osS h)) (sem := .dma (orS h)) (q := fullShare.right) (fs := fs) (κ₁ := K (dCell c (osS h))) (κ₂ := K (dCell (nxt c) (orS h)))
      (r₁ := 0) (r₂ := 0) (d₁ := false) (d₂ := false) (fd := fd)
      (by rw [duties_dma wq wo c _ (by show 6 ≤ 12 + h.val; omega)]; exact Finset.mem_singleton_self _)
      (by rw [duties_dma wq wo (nxt c) _ (by show 6 ≤ 15 + h.val; omega)]; exact Finset.mem_singleton_self _)
      () () N rfl rfl rfl O rfl (W := W)
      (by rw [payload_dma, dPay_os]; unfold oOwn owns; iintro H; iexists fs; isplitr
          · ipureintro; exact hfs
          · iexact H)
      (by rw [payload_dma, dPay_or, back_nxt, ← hfs]; exact owns_landed (nxt c) (oSlot h.succ) fd _)) $$ [Hr Hd HO HtS HtV]
  · isplitr; · iapply (inv_dma wq wo K c (osS h) (by show 6 ≤ 12 + h.val; omega)); iexact HI
    isplitr; · iapply (inv_dma wq wo K (nxt c) (orS h) (by show 6 ≤ 15 + h.val; omega)); iexact HI
    isplitl [Hr]; · iexact Hr
    isplitl [Hd]; · iexact Hd
    isplitl [HO]; · iexact HO
    isplitl [HtS]; · iexact HtS
    isplitr; · iexact HrS
    isplitl [HtV]; · iexact HtV
    iexact HrV
  iintro ⟨HcS, HO⟩
  iapply Hk
  isplitl [Hl]; · iexact Hl
  isplitl [HcS]; · iexact HcS
  iexact HO

/-- The local copy of the device's own query weights into slot 0. -/
theorem wp_copyQ {hsrc : (Memref.whole cc0_stg1_0).view.WordExact} {hdst : (qSlot 0).view.WordExact}
    {hsem : DmaTarget.Typed (nD := nD) .vmem (.dma cqS) (.here (p := .tc) (qSlot 0))} {α : Type} {Q : α → sProp 𝕄}
    {k : PUnit → Prog (TpuEff nD τ sig (Elt F) Λ₀ .tc) α} :
    iprop(invs wq wo K ∗ stgAt c cc0_stg1_0 (wq c) ∗ qFree c 0 ∗ dutyTok ER (dCell c cqS) 0 false ∗ reached ER (dCell c cqS) 0)
      ⊢ iprop((cred (tallyAt (dCell c cqS) () N) -∗ wpc (k ⟨⟩) Q)
          -∗ wpc (.op (.enqueueDma (Memref.whole cc0_stg1_0) (.here (qSlot 0)) (.dma cqS) hsrc hdst hsem) k) Q) := by
  unfold qFree
  iintro ⟨#HI, Hs, ⟨%fd, Hd⟩, Ht, #Hr⟩ Hk
  iapply (Rounds.wp_copy_pointsTo 𝒱₀ ER (ringRd wq wo) (c : Thread nD τ) none (src := Memref.whole cc0_stg1_0) (dst := qSlot 0) (sem := .dma cqS) (q := fullShare)
      (fs := wq c) (fd := fd) (r := 0) (d := false) (κ := K (dCell c cqS))
      (by rw [duties_dma wq wo c _ (by decide)]; exact Finset.mem_singleton_self _) () N rfl rfl
      (by rw [payload_dma]
          show _ ⊢ iprop(qOwn c 0 fullShare (wq c) ∗ stgAt c cc0_stg1_0 (wq c))
          iintro ⟨Hd, Hs⟩
          isplitl [Hd]
          · iapply (owns_landed c (qSlot 0) fd _); iexact Hd
          · simp only [Memref.view_whole, View.set_whole]; iexact Hs)) $$ [Hs Hd Ht]
  · isplitr; · iapply (inv_dma wq wo K c cqS (by decide)); iexact HI
    isplitl [Hs]; · simp only [Memref.view_whole, View.set_whole]; iexact Hs
    isplitl [Hd]; · iexact Hd
    isplitl [Ht]; · iexact Ht
    iexact Hr
  iexact Hk

/-- The local copy of the device's own output weights into slot 0. -/
theorem wp_copyO {hsrc : (Memref.whole cc0_stg4_0).view.WordExact} {hdst : (oSlot 0).view.WordExact}
    {hsem : DmaTarget.Typed (nD := nD) .vmem (.dma coS) (.here (p := .tc) (oSlot 0))} {α : Type} {Q : α → sProp 𝕄}
    {k : PUnit → Prog (TpuEff nD τ sig (Elt F) Λ₀ .tc) α} :
    iprop(invs wq wo K ∗ stgAt c cc0_stg4_0 (wo c) ∗ oFree c 0 ∗ dutyTok ER (dCell c coS) 0 false ∗ reached ER (dCell c coS) 0)
      ⊢ iprop((cred (tallyAt (dCell c coS) () N) -∗ wpc (k ⟨⟩) Q)
          -∗ wpc (.op (.enqueueDma (Memref.whole cc0_stg4_0) (.here (oSlot 0)) (.dma coS) hsrc hdst hsem) k) Q) := by
  unfold oFree
  iintro ⟨#HI, Hs, ⟨%fd, Hd⟩, Ht, #Hr⟩ Hk
  iapply (Rounds.wp_copy_pointsTo 𝒱₀ ER (ringRd wq wo) (c : Thread nD τ) none (src := Memref.whole cc0_stg4_0) (dst := oSlot 0) (sem := .dma coS) (q := fullShare)
      (fs := wo c) (fd := fd) (r := 0) (d := false) (κ := K (dCell c coS))
      (by rw [duties_dma wq wo c _ (by decide)]; exact Finset.mem_singleton_self _) () N rfl rfl
      (by rw [payload_dma]
          show _ ⊢ iprop(oOwn c 0 fullShare (wo c) ∗ stgAt c cc0_stg4_0 (wo c))
          iintro ⟨Hd, Hs⟩
          isplitl [Hd]
          · iapply (owns_landed c (oSlot 0) fd _); iexact Hd
          · simp only [Memref.view_whole, View.set_whole]; iexact Hs)) $$ [Hs Hd Ht]
  · isplitr; · iapply (inv_dma wq wo K c coS (by decide)); iexact HI
    isplitl [Hs]; · simp only [Memref.view_whole, View.set_whole]; iexact Hs
    isplitl [Hd]; · iexact Hd
    isplitl [Ht]; · iexact Ht
    iexact Hr
  iexact Hk

/-! ## The loads of a slot -/

/-- A slot's contents as the vector a load of the slot gives. -/
theorem castQ : S768x512.ShapeCasts S1x768x512 := by decide
theorem castO : S512x768.ShapeCasts S1x512x768 := by decide
def liftQ (X : Vec F S768x512 .bf16) : Vec F S1x768x512 .bf16 := shapeCast S1x768x512 X castQ
def liftO (X : Vec F S512x768 .bf16) : Vec F S1x512x768 .bf16 := shapeCast S1x512x768 X castO

theorem wp_loadQ (k : Fin 4) {q : PosShare TreeShare} {X : Vec F S768x512 .bf16} {hl : qM.view.LoadsAt (qRect k).toLoadRect} {α : Type} {Q : α → sProp 𝕄}
    {kt : Vec F S1x768x512 .bf16 → Prog (TpuEff nD τ sig (Elt F) Λ₀ .tc) α} :
    (qOwn c k q X : sProp 𝕄)
      ⊢ iprop((qOwn c k q X -∗ wpc (kt (liftQ X)) Q) -∗ wpc (.op (.load qM (qRect k).toLoadRect hl) kt) Q) := by
  unfold qOwn owns
  iintro ⟨%f, %hf, Hs⟩ Hk
  iapply (wp_load 𝒱₀ (c : Thread nD τ) none Set.univ (m := qM) (q_sub k)) $$ Hs
  iintro Hs
  have e : qM.view.readAt (Elt F) (qRect k).toLoadRect f = liftQ X := by
    have h1 : shapeCast S768x512 (qM.view.readAt (Elt F) (qRect k).toLoadRect f) shapeCasts_S1x768x512_S768x512 = X := hf
    unfold liftQ; rw [← h1, shapeCast_shapeCast]
  rw [e]
  iapply Hk
  iexists f; isplitr
  · ipureintro; exact hf
  · iexact Hs

theorem wp_loadO (k : Fin 4) {q : PosShare TreeShare} {X : Vec F S512x768 .bf16} {hl : oM.view.LoadsAt (oRect k).toLoadRect} {α : Type} {Q : α → sProp 𝕄}
    {kt : Vec F S1x512x768 .bf16 → Prog (TpuEff nD τ sig (Elt F) Λ₀ .tc) α} :
    (oOwn c k q X : sProp 𝕄)
      ⊢ iprop((oOwn c k q X -∗ wpc (kt (liftO X)) Q) -∗ wpc (.op (.load oM (oRect k).toLoadRect hl) kt) Q) := by
  unfold oOwn owns
  iintro ⟨%f, %hf, Hs⟩ Hk
  iapply (wp_load 𝒱₀ (c : Thread nD τ) none Set.univ (m := oM) (o_sub k)) $$ Hs
  iintro Hs
  have e : oM.view.readAt (Elt F) (oRect k).toLoadRect f = liftO X := by
    have h1 : shapeCast S512x768 (oM.view.readAt (Elt F) (oRect k).toLoadRect f) shapeCasts_S1x512x768_S512x768 = X := hf
    unfold liftO; rw [← h1, shapeCast_shapeCast]
  rw [e]
  iapply Hk
  iexists f; isplitr
  · ipureintro; exact hf
  · iexact Hs

end Rules

end Cert.KernelIdealProof

end
-- ==== Proof.GroupKernelIdeal.lean ====
/-
# What one device computes

The values of the kernel's body, named once: one head of the attention, one group of eight heads (`grp`), the mask
(`maskOf`), the four groups summed (`accOf`), and the two batches stored over the result (`outV`).
-/
module

public import proofs.«01_k».proof.Proof.ProtoKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The scores of one head: the scaled products where the mask holds, -1e9 elsewhere. -/
def scores (mask : IVec S512x512 1) (q k : FVec F S512x64 .bf16) : FVec F S512x512 .f32 :=
  select mask
    (mulf (matmul dot_S512x64_S512x64_S512x512_1_1_0_0_n_n none q k (constant S512x512 .f32 0x00000000#32))
      (broadcast S512x512 (Scalar.ofBits .f32 0x3E000000#32)))
    (broadcast S512x512 (Scalar.ofBits .f32 0xCE6E6B28#32))

/-- Scores less their row's maximum, exponentiated. -/
def expd (s : FVec F S512x512 .f32) : FVec F S512x512 .f32 :=
  exp (subf s (broadcastTo S512x512 (shapeCast S512x1 (multiReduction .maximumf [1] S512 s 0xFF800000#32 reduces_S512x512_S512 (.inl rfl) rfl)
    shapeCasts_S512_S512x1) broadcasts_S512x1_S512x512))

/-- The rows divided by their sums. -/
def rowDiv (e : FVec F S512x512 .f32) : FVec F S512x512 .f32 :=
  divf e (broadcastTo S512x512 (shapeCast S512x1 (multiReduction .add [1] S512 e 0x00000000#32 reduces_S512x512_S512 (.inl rfl) rfl)
    shapeCasts_S512_S512x1) broadcasts_S512x1_S512x512)

/-- One head: the softmax of its scores times its values. -/
def head (mask : IVec S512x512 1) (q k v : FVec F S512x64 .bf16) : FVec F S512x64 .bf16 :=
  truncf .bf16 (matmul dot_S512x512_S512x64_S512x64_1_0_0_1_n_n none (truncf .bf16 (rowDiv (expd (scores mask q k))) bitsLt_bf16_f32) v
    (constant S512x64 .f32 0x00000000#32)) bitsLt_bf16_f32

/-- Eight heads side by side. -/
def heads (mask : IVec S512x512 1) (q k v : FVec F S512x512 .bf16) : FVec F S512x512 .bf16 :=
  concatenate S512x512 1
    [⟨S512x64, head mask (extractStridedSlice S512x64 ![0, 0] q slices_S512x512_o0_0_S512x64) (extractStridedSlice S512x64 ![0, 0] k slices_S512x512_o0_0_S512x64) (extractStridedSlice S512x64 ![0, 0] v slices_S512x512_o0_0_S512x64)⟩,
     ⟨S512x64, head mask (extractStridedSlice S512x64 ![0, 64] q slices_S512x512_o0_64_S512x64) (extractStridedSlice S512x64 ![0, 64] k slices_S512x512_o0_64_S512x64) (extractStridedSlice S512x64 ![0, 64] v slices_S512x512_o0_64_S512x64)⟩,
     ⟨S512x64, head mask (extractStridedSlice S512x64 ![0, 128] q slices_S512x512_o0_128_S512x64) (extractStridedSlice S512x64 ![0, 128] k slices_S512x512_o0_128_S512x64) (extractStridedSlice S512x64 ![0, 128] v slices_S512x512_o0_128_S512x64)⟩,
     ⟨S512x64, head mask (extractStridedSlice S512x64 ![0, 192] q slices_S512x512_o0_192_S512x64) (extractStridedSlice S512x64 ![0, 192] k slices_S512x512_o0_192_S512x64) (extractStridedSlice S512x64 ![0, 192] v slices_S512x512_o0_192_S512x64)⟩,
     ⟨S512x64, head mask (extractStridedSlice S512x64 ![0, 256] q slices_S512x512_o0_256_S512x64) (extractStridedSlice S512x64 ![0, 256] k slices_S512x512_o0_256_S512x64) (extractStridedSlice S512x64 ![0, 256] v slices_S512x512_o0_256_S512x64)⟩,
     ⟨S512x64, head mask (extractStridedSlice S512x64 ![0, 320] q slices_S512x512_o0_320_S512x64) (extractStridedSlice S512x64 ![0, 320] k slices_S512x512_o0_320_S512x64) (extractStridedSlice S512x64 ![0, 320] v slices_S512x512_o0_320_S512x64)⟩,
     ⟨S512x64, head mask (extractStridedSlice S512x64 ![0, 384] q slices_S512x512_o0_384_S512x64) (extractStridedSlice S512x64 ![0, 384] k slices_S512x512_o0_384_S512x64) (extractStridedSlice S512x64 ![0, 384] v slices_S512x512_o0_384_S512x64)⟩,
     ⟨S512x64, head mask (extractStridedSlice S512x64 ![0, 448] q slices_S512x512_o0_448_S512x64) (extractStridedSlice S512x64 ![0, 448] k slices_S512x512_o0_448_S512x64) (extractStridedSlice S512x64 ![0, 448] v slices_S512x512_o0_448_S512x64)⟩]
    concatenates_S512x64_S512x64_S512x64_S512x64_S512x64_S512x64_S512x64_S512x64_S512x512_d1

/-- The queries of a group. -/
def queries (x : FVec F S512x768 .bf16) (wq : Vec F S1x768x512 .bf16) : FVec F S512x512 .bf16 :=
  truncf .bf16 (matmul dot_S512x768_S768x512_S512x512_1_0_0_1_n_n none x (shapeCast S768x512 wq shapeCasts_S1x768x512_S768x512)
    (constant S512x512 .f32 0x00000000#32)) bitsLt_bf16_f32

/-- A group's step: the sum so far plus the eight heads through the output weights. -/
def grp (mask : IVec S512x512 1) (x : FVec F S512x768 .bf16) (wq : Vec F S1x768x512 .bf16) (k v : Vec F S1x512x512 .bf16) (wo : Vec F S1x512x768 .bf16)
    (acc : FVec F S512x768 .f32) : FVec F S512x768 .f32 :=
  addf acc (matmul dot_S512x512_S512x768_S512x768_1_0_0_1_n_n none
    (heads mask (queries x wq) (shapeCast S512x512 k shapeCasts_S1x512x512_S512x512) (shapeCast S512x512 v shapeCasts_S1x512x512_S512x512))
    (shapeCast S512x768 wo shapeCasts_S1x512x768_S512x768) (constant S512x768 .f32 0x00000000#32))

/-! ## The body's values, group by group

`pays_hb` is hop `h`'s group on batch `b`: the values that the body's parts pass on, put together, are `grp`. -/

theorem pays_00 (m : IVec S512x512 1) (x : FVec F S512x768 .bf16) (w : Vec F S1x768x512 .bf16) (k v : Vec F S1x512x512 .bf16) (o : Vec F S1x512x768 .bf16)
    (acc : FVec F S512x768 .f32) :
    k0_pay31 m acc (k0_pay18 x w) (k0_pay19 k) (k0_pay20 v) (k0_pay21 m (k0_pay18 x w) (k0_pay19 k) v) (k0_pay22 m (k0_pay18 x w) (k0_pay19 k) v) (k0_pay24 m (k0_pay20 v) (k0_pay23 (k0_pay18 x w) (k0_pay19 k)) ((Scalar.ofBits .f32 0x3E000000#32))) (k0_pay25 m (k0_pay18 x w) (k0_pay19 k) (k0_pay20 v)) (k0_pay28 (k0_pay20 v) (k0_pay26 m (k0_pay18 x w) (k0_pay19 k)) (k0_pay27 m (k0_pay18 x w) (k0_pay19 k))) (k0_pay29 m (k0_pay18 x w) (k0_pay19 k) (k0_pay20 v)) (k0_pay30 m (k0_pay18 x w) (k0_pay19 k)) o
      = grp m x w k v o acc := by
  rfl

theorem pays_01 (m : IVec S512x512 1) (x : FVec F S512x768 .bf16) (w : Vec F S1x768x512 .bf16) (k v : Vec F S1x512x512 .bf16) (o : Vec F S1x512x768 .bf16)
    (acc : FVec F S512x768 .f32) :
    k0_pay47 m acc (k0_pay32 x w) (k0_pay33 k) (k0_pay34 v) (k0_pay37 m (k0_pay34 v) (k0_pay35 x w) (k0_pay36 k)) (k0_pay38 m (k0_pay32 x w) (k0_pay33 k) (k0_pay34 v)) (k0_pay40 (k0_pay34 v) (k0_pay39 m (k0_pay32 x w) (k0_pay33 k))) (k0_pay41 m (k0_pay32 x w) (k0_pay33 k) (k0_pay34 v)) (k0_pay44 (k0_pay34 v) (k0_pay42 m (k0_pay32 x w) (k0_pay33 k)) (k0_pay43 m (k0_pay32 x w) (k0_pay33 k))) (k0_pay45 m (k0_pay32 x w) (k0_pay33 k) (k0_pay34 v)) (k0_pay46 m (k0_pay32 x w) (k0_pay33 k) (k0_pay34 v)) o
      = grp m x w k v o acc := by
  rfl

theorem pays_10 (m : IVec S512x512 1) (x : FVec F S512x768 .bf16) (w : Vec F S1x768x512 .bf16) (k v : Vec F S1x512x512 .bf16) (o : Vec F S1x512x768 .bf16)
    (acc : FVec F S512x768 .f32) :
    k0_pay62 m acc (k0_pay48 x w) (k0_pay49 k) (k0_pay50 v) (k0_pay51 m (k0_pay48 x w) (k0_pay49 k) v) (k0_pay52 m (k0_pay48 x w) (k0_pay49 k) v) (k0_pay55 m (k0_pay50 v) (k0_pay53 (k0_pay48 x w)) (k0_pay54 (k0_pay49 k)) ((constant S512x512 .f32 0x00000000#32))) (k0_pay56 m (k0_pay48 x w) (k0_pay49 k) (k0_pay50 v)) (k0_pay58 (k0_pay50 v) (k0_pay57 m (k0_pay48 x w) (k0_pay49 k))) (k0_pay59 m (k0_pay48 x w) (k0_pay49 k) (k0_pay50 v)) (k0_pay60 m (k0_pay48 x w) (k0_pay49 k)) (k0_pay61 m (k0_pay48 x w) (k0_pay49 k)) o
      = grp m x w k v o acc := by
  rfl

theorem pays_11 (m : IVec S512x512 1) (x : FVec F S512x768 .bf16) (w : Vec F S1x768x512 .bf16) (k v : Vec F S1x512x512 .bf16) (o : Vec F S1x512x768 .bf16)
    (acc : FVec F S512x768 .f32) :
    k0_pay76 m acc (k0_pay63 x w) (k0_pay64 k) (k0_pay65 v) (k0_pay66 m (k0_pay63 x w) (k0_pay64 k) (k0_pay65 v)) (k0_pay67 m (k0_pay63 x w) (k0_pay64 k) (k0_pay65 v)) (k0_pay69 m (k0_pay65 v) (k0_pay68 (k0_pay63 x w) (k0_pay64 k)) ((Scalar.ofBits .f32 0xCE6E6B28#32))) (k0_pay70 m (k0_pay63 x w) (k0_pay64 k) (k0_pay65 v)) (k0_pay72 (k0_pay65 v) (k0_pay71 m (k0_pay63 x w) (k0_pay64 k))) (k0_pay73 m (k0_pay63 x w) (k0_pay64 k) (k0_pay65 v)) (k0_pay74 m (k0_pay63 x w) (k0_pay64 k)) (k0_pay75 (k0_pay65 v)) ((constant S512x64 .f32 0x00000000#32)) o
      = grp m x w k v o acc := by
  rfl

theorem pays_20 (m : IVec S512x512 1) (x : FVec F S512x768 .bf16) (w : Vec F S1x768x512 .bf16) (k v : Vec F S1x512x512 .bf16) (o : Vec F S1x512x768 .bf16)
    (acc : FVec F S512x768 .f32) :
    k0_pay90 m acc (k0_pay77 x w) (k0_pay78 k) (k0_pay79 v) (k0_pay80 m (k0_pay77 x w) k v) (k0_pay81 m (k0_pay77 x w) k v) (k0_pay83 m (k0_pay78 k) (k0_pay79 v) (k0_pay82 (k0_pay77 x w))) (k0_pay84 m (k0_pay77 x w) (k0_pay78 k) (k0_pay79 v)) (k0_pay87 m (k0_pay79 v) (k0_pay85 (k0_pay77 x w) (k0_pay78 k)) k0_pay86) (k0_pay88 m (k0_pay77 x w) (k0_pay78 k) (k0_pay79 v)) (k0_pay89 m (k0_pay77 x w) (k0_pay78 k)) o
      = grp m x w k v o acc := by
  rfl

theorem pays_21 (m : IVec S512x512 1) (x : FVec F S512x768 .bf16) (w : Vec F S1x768x512 .bf16) (k v : Vec F S1x512x512 .bf16) (o : Vec F S1x512x768 .bf16)
    (acc : FVec F S512x768 .f32) :
    k0_pay105 m acc (k0_pay91 x w) (k0_pay92 k) (k0_pay93 v) (k0_pay94 m (k0_pay91 x w) (k0_pay92 k) v) (k0_pay95 m (k0_pay91 x w) (k0_pay92 k) v) (k0_pay98 m (k0_pay93 v) (k0_pay96 (k0_pay91 x w) (k0_pay92 k)) k0_pay97) (k0_pay99 m (k0_pay91 x w) (k0_pay92 k) (k0_pay93 v)) (k0_pay102 (k0_pay93 v) (k0_pay100 m (k0_pay91 x w) (k0_pay92 k)) (k0_pay101 m (k0_pay91 x w) (k0_pay92 k))) (k0_pay103 m (k0_pay91 x w) (k0_pay92 k) (k0_pay93 v)) (k0_pay104 m (k0_pay91 x w) (k0_pay92 k)) o
      = grp m x w k v o acc := by
  rfl

theorem pays_30 (m : IVec S512x512 1) (x : FVec F S512x768 .bf16) (w : Vec F S1x768x512 .bf16) (k v : Vec F S1x512x512 .bf16) (o : Vec F S1x512x768 .bf16)
    (acc : FVec F S512x768 .f32) :
    k0_pay119 acc (k0_pay118 m (k0_pay106 x w) (k0_pay107 k) (k0_pay108 v) (k0_pay109 m x w k v) (k0_pay111 m (k0_pay108 v) (k0_pay110 x w k)) (k0_pay112 m (k0_pay106 x w) (k0_pay107 k) (k0_pay108 v)) (k0_pay114 (k0_pay108 v) (k0_pay113 m (k0_pay106 x w) (k0_pay107 k))) (k0_pay115 m (k0_pay106 x w) (k0_pay107 k) (k0_pay108 v)) (k0_pay116 m (k0_pay106 x w) (k0_pay107 k)) (k0_pay117 (k0_pay108 v))) o
      = grp m x w k v o acc := by
  rfl

theorem pays_31 (m : IVec S512x512 1) (x : FVec F S512x768 .bf16) (w : Vec F S1x768x512 .bf16) (k v : Vec F S1x512x512 .bf16) (o : Vec F S1x512x768 .bf16)
    (acc : FVec F S512x768 .f32) :
    k0_pay135 m acc (k0_pay120 x w) (k0_pay121 k) (k0_pay122 v) (k0_pay123 m x w k v) (k0_pay126 (k0_pay122 v) (k0_pay124 m x w k) (k0_pay125 m x w k)) (k0_pay127 m (k0_pay120 x w) (k0_pay121 k) (k0_pay122 v)) (k0_pay130 (k0_pay122 v) (k0_pay128 m (k0_pay120 x w) (k0_pay121 k)) (k0_pay129 m (k0_pay120 x w) (k0_pay121 k))) (k0_pay131 m (k0_pay120 x w) (k0_pay121 k) (k0_pay122 v)) (k0_pay132 m (k0_pay120 x w) (k0_pay121 k) (k0_pay122 v)) (k0_pay133 (k0_pay120 x w)) (k0_pay134 (k0_pay121 k)) o
      = grp m x w k v o acc := by
  rfl

/-- The number of device `c` as the body computes it. -/
def meWord (c : Dev nD) : BitVec 32 := Scalar.remsi (Scalar.divsi (Dev.word c) 1#32) 4#32
abbrev rowIota : IVec S512x512 32 := iota .tc S512x512 32 [0] iota_S512x512_d0_w32
abbrev colIota : IVec S512x512 32 := iota .tc S512x512 32 [1] iota_S512x512_d1_w32
abbrev fourWord : BitVec 32 := Scalar.select (Scalar.cmpi .eq 4#32 0#32) 1#32 4#32

/-- The mask of device `c`'s rows. -/
def maskOf (c : Dev nD) : IVec S512x512 1 :=
  k0_pay13 (k0_pay7 colIota) (k0_pay8 rowIota colIota (Scalar.muli (meWord c) 8#32) k0_pay3 k0_pay4 k0_pay5) fourWord
    (k0_pay9 rowIota (Scalar.muli (meWord c) 8#32) k0_pay3 k0_pay4 k0_pay5)
    (k0_pay10 rowIota (Scalar.muli (meWord c) 8#32) k0_pay3 k0_pay4 k0_pay5)
    (k0_pay11 rowIota (Scalar.muli (meWord c) 8#32) k0_pay3 k0_pay4 k0_pay5) k0_pay12

abbrev xM : Memref sig .tc .vmem S2x512x768 .bf16 := Memref.whole cc0_stg0_0
abbrev kM : Memref sig .tc .vmem S2x512x2048 .bf16 := Memref.whole cc0_stg2_0
abbrev vM : Memref sig .tc .vmem S2x512x2048 .bf16 := Memref.whole cc0_stg3_0
abbrev outM : Memref sig .tc .vmem S2x512x768 .f32 := Memref.whole cc0_stg5_0

/-- A batch of the rows, and 512 columns of a batch of the keys or of the values, as loads read them. -/
def rowsAt (x : cc0_stg0_0.ty.Contents (Elt F)) (off : Fin 3 → ℕ) (h : ∀ a, off a + S1x512x768.size a ≤ S2x512x768.size a) : Vec F S1x512x768 .bf16 :=
  xM.view.readAt (Elt F) (Rect.unit (s := S2x512x768) off S1x512x768.size h).toLoadRect x
def colsAt (k : cc0_stg2_0.ty.Contents (Elt F)) (off : Fin 3 → ℕ) (h : ∀ a, off a + S1x512x512.size a ≤ S2x512x2048.size a) : Vec F S1x512x512 .bf16 :=
  kM.view.readAt (Elt F) (Rect.unit (s := S2x512x2048) off S1x512x512.size h).toLoadRect k

def zeroAcc : FVec F S512x768 .f32 := broadcast S512x768 (Scalar.ofBits .f32 0x00000000#32)

section
variable (wq : Dev nD → Vec F S768x512 .bf16) (wo : Dev nD → Vec F S512x768 .bf16)
  (x : cc0_stg0_0.ty.Contents (Elt F)) (k v : cc0_stg2_0.ty.Contents (Elt F)) (c : Dev nD)

/-- Group `r` of batch 0, of batch 1, added to `acc`. -/
def step0 (r : Fin 4) (acc : FVec F S512x768 .f32) : FVec F S512x768 .f32 :=
  grp (maskOf c) (shapeCast S512x768 (rowsAt x ![0, 0, 0] inb_S2x512x768_S1x512x768_0_0_0) shapeCasts_S1x512x768_S512x768) (liftQ (wq (back c r.val)))
    (colsAt k (k0_off1 c (BitVec.ofNat 32 r.val)) (k0_off1_inb c r)) (colsAt v (k0_off1 c (BitVec.ofNat 32 r.val)) (k0_off1_inb c r))
    (liftO (wo (back c r.val))) acc
def step1 (r : Fin 4) (acc : FVec F S512x768 .f32) : FVec F S512x768 .f32 :=
  grp (maskOf c) (shapeCast S512x768 (rowsAt x ![1, 0, 0] inb_S2x512x768_S1x512x768_1_0_0) shapeCasts_S1x512x768_S512x768) (liftQ (wq (back c r.val)))
    (colsAt k (k0_off2 c (BitVec.ofNat 32 r.val)) (k0_off2_inb c r)) (colsAt v (k0_off2 c (BitVec.ofNat 32 r.val)) (k0_off2_inb c r))
    (liftO (wo (back c r.val))) acc

/-- A step with the hop's number as the body writes it. -/
theorem step0_at (r : Fin 4) (n : ℕ) (w : BitVec 32) (hn : n = r.val) (hw : w = BitVec.ofNat 32 r.val) (acc : FVec F S512x768 .f32)
    {h h' : ∀ a, k0_off1 c w a + S1x512x512.size a ≤ S2x512x2048.size a} :
    grp (maskOf c) (shapeCast S512x768 (rowsAt x ![0, 0, 0] inb_S2x512x768_S1x512x768_0_0_0) shapeCasts_S1x512x768_S512x768) (liftQ (wq (back c n)))
      (colsAt k (k0_off1 c w) h) (colsAt v (k0_off1 c w) h') (liftO (wo (back c n))) acc = step0 wq wo x k v c r acc := by
  subst hn hw; rfl
theorem step1_at (r : Fin 4) (n : ℕ) (w : BitVec 32) (hn : n = r.val) (hw : w = BitVec.ofNat 32 r.val) (acc : FVec F S512x768 .f32)
    {h h' : ∀ a, k0_off2 c w a + S1x512x512.size a ≤ S2x512x2048.size a} :
    grp (maskOf c) (shapeCast S512x768 (rowsAt x ![1, 0, 0] inb_S2x512x768_S1x512x768_1_0_0) shapeCasts_S1x512x768_S512x768) (liftQ (wq (back c n)))
      (colsAt k (k0_off2 c w) h) (colsAt v (k0_off2 c w) h') (liftO (wo (back c n))) acc = step1 wq wo x k v c r acc := by
  subst hn hw; rfl

/-- The two batches' sums over the four groups. -/
def accOf : Fin 2 → FVec F S512x768 .f32 :=
  ![step0 wq wo x k v c 3 (step0 wq wo x k v c 2 (step0 wq wo x k v c 1 (step0 wq wo x k v c 0 zeroAcc))),
    step1 wq wo x k v c 3 (step1 wq wo x k v c 2 (step1 wq wo x k v c 1 (step1 wq wo x k v c 0 zeroAcc)))]

end

/-- Two batches stacked. -/
def outV (a : Fin 2 → FVec F S512x768 .f32) : S2x512x768.Idx → F .f32 := fun i => a (i 0) (fun j => i j.succ)

abbrev outRect (b : Fin 2) (h : ∀ a, ![b.val, 0, 0] a + S1x512x768.size a ≤ S2x512x768.size a) : Rect S2x512x768 :=
  Rect.unit (s := S2x512x768) ![b.val, 0, 0] S1x512x768.size h

theorem write_same (f : S2x512x768.Idx → F .f32) (b : Fin 2) (h : ∀ a, ![b.val, 0, 0] a + S1x512x768.size a ≤ S2x512x768.size a)
    (w : FVec F S512x768 .f32) (i : S2x512x768.Idx) (hi : i 0 = b) :
    (outM.access (outRect b h)).write (Elt F) f (shapeCast S1x512x768 w shapeCasts_S512x768_S1x512x768) Finset.univ i = w (fun j => i j.succ) := by
  have hemb : (outM.access (outRect b h)).emb (fun a => Fin.cases (⟨0, Nat.one_pos⟩ : Fin 1) (fun j => i j.succ) a : S1x512x768.Idx) = i := by
    funext a; apply Fin.ext
    subst hi
    fin_cases a
    · show (i 0).val + 1 * 0 = (i 0).val; omega
    · show 0 + 1 * (i 1).val = (i 1).val; omega
    · show 0 + 1 * (i 2).val = (i 2).val; omega
  rw [← hemb]
  refine (View.write_emb_of_mem _ _ (Finset.mem_univ _)).trans ?_
  rw [hemb]
  show shapeCast S1x512x768 w shapeCasts_S512x768_S1x512x768 _ = _
  rw [shapeCast_addUnit_apply ![512, 768] w]
  rfl

theorem write_other (f : S2x512x768.Idx → F .f32) (b : Fin 2) (h : ∀ a, ![b.val, 0, 0] a + S1x512x768.size a ≤ S2x512x768.size a)
    (w : S1x512x768.Idx → F .f32) (i : S2x512x768.Idx) (hi : i 0 ≠ b) :
    (outM.access (outRect b h)).write (Elt F) f w Finset.univ i = f i := by
  refine View.write_of_not_mem _ _ _ fun hm => hi ?_
  obtain ⟨j, -, rfl⟩ := Finset.mem_map.mp hm
  apply Fin.ext
  show b.val + 1 * (j 0).val = b.val
  have : (j 0).val < 1 := (j 0).isLt
  omega

/-- The body's two stores leave the two batches, whatever the buffer held. -/
theorem writes_out (f : S2x512x768.Idx → F .f32) (a0 a1 : FVec F S512x768 .f32)
    (h0 : ∀ a, ![0, 0, 0] a + S1x512x768.size a ≤ S2x512x768.size a) (h1 : ∀ a, ![1, 0, 0] a + S1x512x768.size a ≤ S2x512x768.size a) :
    (outM.access (Rect.unit (s := S2x512x768) ![1, 0, 0] S1x512x768.size h1)).write (Elt F)
      ((outM.access (Rect.unit (s := S2x512x768) ![0, 0, 0] S1x512x768.size h0)).write (Elt F) f (k0_pay1 a0) Finset.univ) (k0_pay2 a1) Finset.univ
      = outV ![a0, a1] := by
  funext i
  rcases (by have : (i 0).val < 2 := (i 0).isLt
             rcases Nat.lt_or_ge (i 0).val 1 with h | h
             · exact .inl (Fin.ext (by show (i 0).val = 0; omega))
             · exact .inr (Fin.ext (by show (i 0).val = 1; omega)) : i 0 = (0 : Fin 2) ∨ i 0 = (1 : Fin 2)) with hi | hi
  · refine (write_other _ 1 h1 _ i (by rw [hi]; show (0 : Fin 2) ≠ 1; decide)).trans ?_
    refine (write_same f 0 h0 a0 i hi).trans ?_
    unfold outV; rw [hi]; rfl
  · refine (write_same _ 1 h1 a1 i hi).trans ?_
    unfold outV; rw [hi]; rfl

end Cert.KernelIdealProof

end
-- ==== Proof.SlotsKernelIdeal.lean ====
/-
# A scratch buffer as its four slots; what the body starts and ends with; its loads
-/
module

public import proofs.«01_k».proof.Proof.GroupKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A scratch buffer and its four slots -/

/-- The elements of slot `k`, by their first coordinate. -/
def qSet (k : Fin 4) : Finset S4x768x512.Idx := Finset.univ.filter fun i => (i 0).val = k.val
def oSet (k : Fin 4) : Finset S4x512x768.Idx := Finset.univ.filter fun i => (i 0).val = k.val

theorem q_set (k : Fin 4) : (qSlot k).view.set = (qSet k : Finset S4x768x512.Idx) := by
  refine (Memref.set_view_squeeze _ _).trans ((View.set_slice qM.view (qRect k)).trans ?_)
  refine Finset.ext fun i => ⟨fun h => ?_, fun h => ?_⟩
  · obtain ⟨j, hj, rfl⟩ := Finset.mem_map.mp h
    have h0 := Rect.mem_set_unit.mp hj 0
    have h1 : k.val ≤ (j 0).val := h0.1
    have h2 : (j 0).val < k.val + 1 := h0.2
    exact Finset.mem_filter.mpr ⟨Finset.mem_univ _, show (j 0).val = k.val by omega⟩
  · have h0 : (i 0).val = k.val := (Finset.mem_filter.mp h).2
    refine Finset.mem_map.mpr ⟨i, Rect.mem_set_unit.mpr fun a => ?_, rfl⟩
    fin_cases a
    · exact ⟨h0.ge, h0 ▸ Nat.lt_succ_self _⟩
    · exact ⟨Nat.zero_le _, by show (i 1).val < 0 + 768; rw [Nat.zero_add]; exact (i 1).isLt⟩
    · exact ⟨Nat.zero_le _, by show (i 2).val < 0 + 512; rw [Nat.zero_add]; exact (i 2).isLt⟩

theorem o_set (k : Fin 4) : (oSlot k).view.set = (oSet k : Finset S4x512x768.Idx) := by
  refine (Memref.set_view_squeeze _ _).trans ((View.set_slice oM.view (oRect k)).trans ?_)
  refine Finset.ext fun i => ⟨fun h => ?_, fun h => ?_⟩
  · obtain ⟨j, hj, rfl⟩ := Finset.mem_map.mp h
    have h0 := Rect.mem_set_unit.mp hj 0
    have h1 : k.val ≤ (j 0).val := h0.1
    have h2 : (j 0).val < k.val + 1 := h0.2
    exact Finset.mem_filter.mpr ⟨Finset.mem_univ _, show (j 0).val = k.val by omega⟩
  · have h0 : (i 0).val = k.val := (Finset.mem_filter.mp h).2
    refine Finset.mem_map.mpr ⟨i, Rect.mem_set_unit.mpr fun a => ?_, rfl⟩
    fin_cases a
    · exact ⟨h0.ge, h0 ▸ Nat.lt_succ_self _⟩
    · exact ⟨Nat.zero_le _, by show (i 1).val < 0 + 512; rw [Nat.zero_add]; exact (i 1).isLt⟩
    · exact ⟨Nat.zero_le _, by show (i 2).val < 0 + 768; rw [Nat.zero_add]; exact (i 2).isLt⟩

theorem qSet_disj : ∀ t ∈ (Finset.univ : Finset (Fin 4)), ∀ t' ∈ (Finset.univ : Finset (Fin 4)), t ≠ t' → Disjoint (qSet t) (qSet t') :=
  fun t _ t' _ h => Finset.disjoint_left.mpr fun i hi hi' => h (Fin.ext ((Finset.mem_filter.mp hi).2.symm.trans (Finset.mem_filter.mp hi').2))
theorem oSet_disj : ∀ t ∈ (Finset.univ : Finset (Fin 4)), ∀ t' ∈ (Finset.univ : Finset (Fin 4)), t ≠ t' → Disjoint (oSet t) (oSet t') :=
  fun t _ t' _ h => Finset.disjoint_left.mpr fun i hi hi' => h (Fin.ext ((Finset.mem_filter.mp hi).2.symm.trans (Finset.mem_filter.mp hi').2))
theorem qSet_union : (Finset.univ : Finset (Fin 4)).biUnion qSet = Finset.univ :=
  Finset.eq_univ_of_forall fun i => Finset.mem_biUnion.mpr ⟨i 0, Finset.mem_univ _, Finset.mem_filter.mpr ⟨Finset.mem_univ _, rfl⟩⟩
theorem oSet_union : (Finset.univ : Finset (Fin 4)).biUnion oSet = Finset.univ :=
  Finset.eq_univ_of_forall fun i => Finset.mem_biUnion.mpr ⟨i 0, Finset.mem_univ _, Finset.mem_filter.mpr ⟨Finset.mem_univ _, rfl⟩⟩

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A scratch buffer whole, at any contents. -/
def qAny (c : Dev nD) : sProp 𝕄 := iprop(∃ f : Buf (Elt F) ((c : Thread nD τ).loc cc0_scratch0), ((c : Thread nD τ).loc cc0_scratch0) ↦{fullShare} f)
def oAny (c : Dev nD) : sProp 𝕄 := iprop(∃ f : Buf (Elt F) ((c : Thread nD τ).loc cc0_scratch1), ((c : Thread nD τ).loc cc0_scratch1) ↦{fullShare} f)

theorem q_pts (c : Dev nD) (f : Buf (Elt F) ((c : Thread nD τ).loc cc0_scratch0)) :
    (((c : Thread nD τ).loc cc0_scratch0) ↦{fullShare} f : sProp 𝕄)
      = bigSep Finset.univ fun t : Fin 4 => (((c : Thread nD τ).loc cc0_scratch0) ↦[qSet t]{fullShare} f : sProp 𝕄) := by
  have h := pointsTo_biUnion (Ix := Unit) (Name := ℕ) (U := UU) (Lvl := ℕ) (Val := Elt F) (ℓ := (c : Thread nD τ).loc cc0_scratch0) (q := fullShare) (f := f) Finset.univ qSet qSet_disj
  rw [qSet_union] at h
  exact h
theorem q_split (c : Dev nD) : (qAny (F := F) c) ⊢ iprop(qFree c 0 ∗ qFree c 1 ∗ qFree c 2 ∗ qFree c 3) := by
  unfold qAny
  iintro ⟨%f, H⟩
  ihave H := (Entails.of_eq ((q_pts c f).trans (bigSep_four _))) $$ H
  icases H with ⟨H0, H1, H2, H3⟩
  unfold qFree
  isplitl [H0]; · iexists f; rw [q_set]; iexact H0
  isplitl [H1]; · iexists f; rw [q_set]; iexact H1
  isplitl [H2]; · iexists f; rw [q_set]; iexact H2
  iexists f; rw [q_set]; iexact H3
theorem o_pts (c : Dev nD) (f : Buf (Elt F) ((c : Thread nD τ).loc cc0_scratch1)) :
    (((c : Thread nD τ).loc cc0_scratch1) ↦{fullShare} f : sProp 𝕄)
      = bigSep Finset.univ fun t : Fin 4 => (((c : Thread nD τ).loc cc0_scratch1) ↦[oSet t]{fullShare} f : sProp 𝕄) := by
  have h := pointsTo_biUnion (Ix := Unit) (Name := ℕ) (U := UU) (Lvl := ℕ) (Val := Elt F) (ℓ := (c : Thread nD τ).loc cc0_scratch1) (q := fullShare) (f := f) Finset.univ oSet oSet_disj
  rw [oSet_union] at h
  exact h
theorem o_split (c : Dev nD) : (oAny (F := F) c) ⊢ iprop(oFree c 0 ∗ oFree c 1 ∗ oFree c 2 ∗ oFree c 3) := by
  unfold oAny
  iintro ⟨%f, H⟩
  ihave H := (Entails.of_eq ((o_pts c f).trans (bigSep_four _))) $$ H
  icases H with ⟨H0, H1, H2, H3⟩
  unfold oFree
  isplitl [H0]; · iexists f; rw [o_set]; iexact H0
  isplitl [H1]; · iexists f; rw [o_set]; iexact H1
  isplitl [H2]; · iexists f; rw [o_set]; iexact H2
  iexists f; rw [o_set]; iexact H3

theorem q_join (c : Dev nD) (X : Fin 4 → Vec F S768x512 .bf16) :
    iprop(qOwn c 0 fullShare (X 0) ∗ qOwn c 1 fullShare (X 1) ∗ qOwn c 2 fullShare (X 2) ∗ qOwn c 3 fullShare (X 3)) ⊢ qAny (F := F) c := by
  unfold qOwn owns qAny
  iintro ⟨⟨%f0, -, H0⟩, ⟨%f1, -, H1⟩, ⟨%f2, -, H2⟩, ⟨%f3, -, H3⟩⟩
  ihave H := (pointsTo_biUnion_join (ℓ := (c : Thread nD τ).loc cc0_scratch0) (q := fullShare) Finset.univ qSet ![f0, f1, f2, f3] f0 qSet_disj) $$ [H0 H1 H2 H3]
  · rw [bigSep_four]
    isplitl [H0]; · rw [q_set]; iexact H0
    isplitl [H1]; · rw [q_set]; iexact H1
    isplitl [H2]; · rw [q_set]; iexact H2
    rw [q_set]; iexact H3
  icases H with ⟨%g, -, H⟩
  rw [qSet_union]
  iexists g; iexact H
theorem o_join (c : Dev nD) (X : Fin 4 → Vec F S512x768 .bf16) :
    iprop(oOwn c 0 fullShare (X 0) ∗ oOwn c 1 fullShare (X 1) ∗ oOwn c 2 fullShare (X 2) ∗ oOwn c 3 fullShare (X 3)) ⊢ oAny (F := F) c := by
  unfold oOwn owns oAny
  iintro ⟨⟨%f0, -, H0⟩, ⟨%f1, -, H1⟩, ⟨%f2, -, H2⟩, ⟨%f3, -, H3⟩⟩
  ihave H := (pointsTo_biUnion_join (ℓ := (c : Thread nD τ).loc cc0_scratch1) (q := fullShare) Finset.univ oSet ![f0, f1, f2, f3] f0 oSet_disj) $$ [H0 H1 H2 H3]
  · rw [bigSep_four]
    isplitl [H0]; · rw [o_set]; iexact H0
    isplitl [H1]; · rw [o_set]; iexact H1
    isplitl [H2]; · rw [o_set]; iexact H2
    rw [o_set]; iexact H3
  icases H with ⟨%g, -, H⟩
  rw [oSet_union]
  iexists g; iexact H

/-! ## What the body starts and ends with -/

/-- One resource per own DMA cell. -/
abbrev own14 (Φ : DmaSem sig → sProp 𝕄) : sProp 𝕄 :=
  iprop((Φ (qsS 0) ∗ Φ (qsS 1) ∗ Φ (qsS 2)) ∗ (Φ (qrS 0) ∗ Φ (qrS 1) ∗ Φ (qrS 2)) ∗ (Φ (osS 0) ∗ Φ (osS 1) ∗ Φ (osS 2))
    ∗ (Φ (orS 0) ∗ Φ (orS 1) ∗ Φ (orS 2)) ∗ Φ cqS ∗ Φ coS)

/-- Who waits on the cell that device `c` pays: the receive cells are the next device's, the others its own. -/
abbrev paid (c : Dev nD) (n : ℕ) : Dev nD := if (9 ≤ n ∧ n < 12) ∨ (15 ≤ n ∧ n < 18) then nxt c else c

section Body

variable (wq : Dev nD → Vec F S768x512 .bf16) (wo : Dev nD → Vec F S512x768 .bf16) (K : GSem nD τ sig → ℕ) (c : Dev nD)

/-- The ring's resources of device `c`, its own cells open. -/
def opened : sProp 𝕄 :=
  iprop(invs wq wo K ∗ levAts L lv
    ∗ (reached ER (barCell (prv c)) 0 ∗ reached ER (barCell (nxt c)) 0 ∗ own14 fun s => reached ER (dCell c s) 0)
    ∗ (atPos ER (barCell c) 0 ∅ 0 ∗ own14 fun s => atPos ER (dCell c s) 0 ∅ 0)
    ∗ (dutyTok ER (barCell (prv c)) 0 true ∗ dutyTok ER (barCell (nxt c)) 0 false ∗ own14 fun s => dutyTok ER (dCell (paid c s.val) s) 0 false)
    ∗ (cred (tallyAt (barCell c) () 2) ∗ (cred (tallyAt (dCell c (qrS 0)) () N) ∗ cred (tallyAt (dCell c (qrS 1)) () N) ∗ cred (tallyAt (dCell c (qrS 2)) () N))
      ∗ (cred (tallyAt (dCell c (orS 0)) () N) ∗ cred (tallyAt (dCell c (orS 1)) () N) ∗ cred (tallyAt (dCell c (orS 2)) () N))))

variable (x : cc0_stg0_0.ty.Contents (Elt F)) (k v : cc0_stg2_0.ty.Contents (Elt F))

def bodyPre (y : cc0_stg5_0.ty.Contents (Elt F)) (W : Waits sig Unit) : sProp 𝕄 :=
  iprop(opened wq wo K c ∗ owes (c : Thread nD τ) (O₀ c) W ∗ qAny c ∗ oAny c
    ∗ stgAt c cc0_stg0_0 x ∗ stgAt c cc0_stg1_0 (wq c) ∗ stgAt c cc0_stg2_0 k ∗ stgAt c cc0_stg3_0 v ∗ stgAt c cc0_stg4_0 (wo c) ∗ stgAt c cc0_stg5_0 y)

def bodyPost : sProp 𝕄 :=
  iprop(semVal (barCell c) 0 ∗ own14 (fun s => semVal (dCell c s) 0) ∗ (∃ W, owes (c : Thread nD τ) (0 : CellTallies nD τ sig Unit) W) ∗ qAny c ∗ oAny c
    ∗ stgAt c cc0_stg0_0 x ∗ stgAt c cc0_stg1_0 (wq c) ∗ stgAt c cc0_stg2_0 k ∗ stgAt c cc0_stg3_0 v ∗ stgAt c cc0_stg4_0 (wo c)
    ∗ stgAt c cc0_stg5_0 (outV (accOf wq wo x k v c)))

/-! ## Loads of the staged blocks -/

local notation "wpc" => wp frame (wpE (defs₀ (F := F)) 𝒱₀ (c : Thread nD τ) none) Set.univ

theorem wp_loadX {off : Fin 3 → ℕ} {h : ∀ a, off a + S1x512x768.size a ≤ S2x512x768.size a}
    {hl : xM.view.LoadsAt (Rect.unit (s := S2x512x768) off S1x512x768.size h).toLoadRect} {α : Type} {Q : α → sProp 𝕄}
    {kt : Vec F S1x512x768 .bf16 → Prog (TpuEff nD τ sig (Elt F) Λ₀ .tc) α} :
    (stgAt c cc0_stg0_0 x : sProp 𝕄) ⊢ iprop((stgAt c cc0_stg0_0 x -∗ wpc (kt (rowsAt x off h)) Q)
      -∗ wpc (.op (.load xM (Rect.unit (s := S2x512x768) off S1x512x768.size h).toLoadRect hl) kt) Q) := by
  iintro Hs Hk
  iapply (wp_load 𝒱₀ (c : Thread nD τ) none Set.univ (m := xM) (Finset.subset_univ _)) $$ Hs
  iintro Hs
  iapply Hk; iexact Hs
theorem wp_loadK {off : Fin 3 → ℕ} {h : ∀ a, off a + S1x512x512.size a ≤ S2x512x2048.size a}
    {hl : kM.view.LoadsAt (Rect.unit (s := S2x512x2048) off S1x512x512.size h).toLoadRect} {α : Type} {Q : α → sProp 𝕄}
    {kt : Vec F S1x512x512 .bf16 → Prog (TpuEff nD τ sig (Elt F) Λ₀ .tc) α} :
    (stgAt c cc0_stg2_0 k : sProp 𝕄) ⊢ iprop((stgAt c cc0_stg2_0 k -∗ wpc (kt (colsAt k off h)) Q)
      -∗ wpc (.op (.load kM (Rect.unit (s := S2x512x2048) off S1x512x512.size h).toLoadRect hl) kt) Q) := by
  iintro Hs Hk
  iapply (wp_load 𝒱₀ (c : Thread nD τ) none Set.univ (m := kM) (Finset.subset_univ _)) $$ Hs
  iintro Hs
  iapply Hk; iexact Hs
theorem wp_loadV {off : Fin 3 → ℕ} {h : ∀ a, off a + S1x512x512.size a ≤ S2x512x2048.size a}
    {hl : vM.view.LoadsAt (Rect.unit (s := S2x512x2048) off S1x512x512.size h).toLoadRect} {α : Type} {Q : α → sProp 𝕄}
    {kt : Vec F S1x512x512 .bf16 → Prog (TpuEff nD τ sig (Elt F) Λ₀ .tc) α} :
    (stgAt c cc0_stg3_0 v : sProp 𝕄) ⊢ iprop((stgAt c cc0_stg3_0 v -∗ wpc (kt (colsAt v off h)) Q)
      -∗ wpc (.op (.load vM (Rect.unit (s := S2x512x2048) off S1x512x512.size h).toLoadRect hl) kt) Q) := by
  iintro Hs Hk
  iapply (wp_load 𝒱₀ (c : Thread nD τ) none Set.univ (m := vM) (Finset.subset_univ _)) $$ Hs
  iintro Hs
  iapply Hk; iexact Hs

end Body

end Cert.KernelIdealProof

end
-- ==== Proof.BodyKernelIdeal.lean ====
/-
# The body on one device

Run once, at a symbolic device `c`: the barrier, the two local copies, three hops with their groups of heads, the last
group, the two stores. From `bodyPre` to `bodyPost`.
-/
module

public import proofs.«01_k».proof.Proof.SlotsKernelIdeal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (wq : Dev nD → Vec F S768x512 .bf16) (wo : Dev nD → Vec F S512x768 .bf16) (K : GSem nD τ sig → ℕ) (c : Dev nD)
  (x : cc0_stg0_0.ty.Contents (Elt F)) (k v : cc0_stg2_0.ty.Contents (Elt F))

/-- The barrier's wait: both neighbours' units, and with them what the right one hands over. -/
theorem wp_wait_bar (s : Sem sig) (hs : s = barS) (n : BitVec 32) (hn : n.toNat = 2) {W : Waits sig Unit} {α : Type}
    {k : PUnit → Prog (TpuEff nD τ sig (Elt F) Λ₀ .tc) α} {Q : α → sProp 𝕄} :
    iprop(invs wq wo K ∗ levAts L lv ∗ cred (tallyAt (barCell c) () 2) ∗ owes (c : Thread nD τ) (OR c 3) W ∗ atPos ER (barCell c) 0 ∅ 0)
      ⊢ iprop((((∃ W', owes (c : Thread nD τ) (OR c 3) W') ∗ semVal (barCell c) 0 ∗ barPay c) -∗ wp frame (wpE (defs₀ (F := F)) 𝒱₀ c none) Set.univ (k ⟨⟩) Q)
        -∗ wp frame (wpE (defs₀ (F := F)) 𝒱₀ c none) Set.univ (.op (.semWait s n.toNat) k) Q) := by
  subst hs
  rw [hn]
  iintro ⟨#HI, #Hlev, Hc, HO, Ha⟩ HK
  iapply (Rounds.wp_wait_rest_token 𝒱₀ ER (ringRd wq wo) (c : Thread nD τ) none (κ := K (barCell c))
      (wpE_semWait_eq 𝒱₀ (c : Thread nD τ) none Set.univ) (Set.mem_univ _) () (O := OR c 3) (W := W) (R := 0) (m := 0) (T := ∅)
      (by rw [expect_bar])) $$ [Hc HO Ha]
  · isplitr; · iapply (inv_bar wq wo K c); iexact HI
    isplitl [Hc]; · iexact Hc
    isplitl [HO]; · iexact HO
    isplitr; · iapply (mayWait_OR c (.reg barS) 3 (by rw [lv_bar]; decide)); iexact Hlev
    iexact Ha
  iintro ⟨HO, HaB, -, Hpay⟩
  ihave Hp := (Entails.of_eq (rest_bar wq wo c)) $$ Hpay
  imod (Rounds.cell_close ER (ringRd wq wo) (g := barCell c) (Set.mem_univ (K (barCell c))) id (R := 0 + 1) (duties_later wq wo (barCell c))) $$ [HaB] with HzB
  · isplitr; · iapply (inv_bar wq wo K c); iexact HI
    iexact HaB
  iapply HK
  isplitl [HO]; · iexists _; iexact HO
  isplitl [HzB]; · iexact HzB
  icases Hp with ⟨-, Hp⟩
  iexact Hp

/-- A value returned is kept under a name. -/
theorem wp_ret_keep {A B : Type} (c : Dev nD) {R : sProp 𝕄} {Q : B → sProp 𝕄} {k : A → Prog (TpuEff nD τ sig (Elt F) Λ₀ .tc) B} (a : A)
    (h : ∀ r, r = a → Entails' R (wp frame (wpE (defs₀ (F := F)) 𝒱₀ (c : Thread nD τ) none) Set.univ (k r) Q)) :
    Entails' R (wp frame (wpE (defs₀ (F := F)) 𝒱₀ (c : Thread nD τ) none) Set.univ (.ret a)
      (fun b => wp frame (wpE (defs₀ (F := F)) 𝒱₀ (c : Thread nD τ) none) Set.univ (k b) Q)) := by
  rw [wp_ret]
  exact Entails.trans (h a rfl) fupd_intro

/-- `wp_sendQ` with the two slots given as literals. -/
theorem wp_hopQ (h : Fin 3) (a b : Fin 4) (ha : a = h.castSucc) (hb : b = h.succ) (m : ℕ) (hm : m = h.val) (n : Dev nD) (hn : n = nxt c)
    {hsc : (qSlot b : Memref sig (Dev.tc n : Thread nD τ).2.kind .vmem S768x512 .bf16).view.ref.isScScratch = false}
    {hsrc : (qSlot a).view.WordExact} {hdst : (qSlot b).view.WordExact}
    {hsem : DmaTarget.Typed .vmem (.dma (qrS h)) (.remote (Dev.tc n : Thread nD τ) (qSlot b) (.dma (qsS h)) hsc)}
    (O : CellTallies nD τ sig Unit) {W : Waits sig Unit} {α : Type} {Q : α → sProp 𝕄} {k : PUnit → Prog (TpuEff nD τ sig (Elt F) Λ₀ .tc) α} :
    iprop(invs wq wo K ∗ qOwn c a fullShare (wq (back c m)) ∗ (qFree (nxt c) h.succ ∗ reached ER (dCell (nxt c) (qrS h)) 0)
        ∗ owes (c : Thread nD τ) (O + Oq c h) W
        ∗ dutyTok ER (dCell c (qsS h)) 0 false ∗ reached ER (dCell c (qsS h)) 0 ∗ dutyTok ER (dCell (nxt c) (qrS h)) 0 false)
      ⊢ iprop(((qOwn c a fullShare.left (wq (back c m)) ∗ cred (tallyAt (dCell c (qsS h)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (qSlot a) (.remote (Dev.tc n : Thread nD τ) (qSlot b) (.dma (qsS h)) hsc) (.dma (qrS h)) hsrc hdst hsem) k) Q) := by
  subst ha hb hm
  iintro ⟨#HI, Hs, Hg, HO, HtS, #HrS, HtV⟩
  iapply (wp_sendQ wq wo K c h n hn O)
  iframe HI Hs Hg HO HtS HrS HtV

/-- `wp_sendO` with the two slots given as literals. -/
theorem wp_hopO (h : Fin 3) (a b : Fin 4) (ha : a = h.castSucc) (hb : b = h.succ) (m : ℕ) (hm : m = h.val) (n : Dev nD) (hn : n = nxt c)
    {hsc : (oSlot b : Memref sig (Dev.tc n : Thread nD τ).2.kind .vmem S512x768 .bf16).view.ref.isScScratch = false}
    {hsrc : (oSlot a).view.WordExact} {hdst : (oSlot b).view.WordExact}
    {hsem : DmaTarget.Typed .vmem (.dma (orS h)) (.remote (Dev.tc n : Thread nD τ) (oSlot b) (.dma (osS h)) hsc)}
    (O : CellTallies nD τ sig Unit) {W : Waits sig Unit} {α : Type} {Q : α → sProp 𝕄} {k : PUnit → Prog (TpuEff nD τ sig (Elt F) Λ₀ .tc) α} :
    iprop(invs wq wo K ∗ oOwn c a fullShare (wo (back c m)) ∗ (oFree (nxt c) h.succ ∗ reached ER (dCell (nxt c) (orS h)) 0)
        ∗ owes (c : Thread nD τ) (O + Oo c h) W
        ∗ dutyTok ER (dCell c (osS h)) 0 false ∗ reached ER (dCell c (osS h)) 0 ∗ dutyTok ER (dCell (nxt c) (orS h)) 0 false)
      ⊢ iprop(((oOwn c a fullShare.left (wo (back c m)) ∗ cred (tallyAt (dCell c (osS h)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (oSlot a) (.remote (Dev.tc n : Thread nD τ) (oSlot b) (.dma (osS h)) hsc) (.dma (orS h)) hsrc hdst hsem) k) Q) := by
  subst ha hb hm
  iintro ⟨#HI, Hs, Hg, HO, HtS, #HrS, HtV⟩
  iapply (wp_sendO wq wo K c h n hn O)
  iframe HI Hs Hg HO HtS HrS HtV

/-- `wp_wait_close` with what the cell hands over given by name. -/
theorem wp_await {sp sp' : Space} {s s' : Shape} {e e' : EltTy} (sem : DmaSem sig) (h6 : 6 ≤ sem.val)
    {src : Memref sig .tc sp' s' e'} {κ' : Kind} {dst : Memref sig κ' sp s e} {hsrc : src.view.WordExact} {hdst : dst.view.WordExact}
    (hN : dst.view.dmaCredit = N) (r : ℕ) (hlv : lv (dCell c sem) () + r < 5) (P : sProp 𝕄) (hP : dPay wq wo c sem.val = P)
    {W : Waits sig Unit} {α : Type} {Q : α → sProp 𝕄} {k : PUnit → Prog (TpuEff nD τ sig (Elt F) Λ₀ .tc) α} :
    iprop(invs wq wo K ∗ levAts L lv ∗ cred (tallyAt (dCell c sem) () N) ∗ owes (c : Thread nD τ) (OR c r) W ∗ atPos ER (dCell c sem) 0 ∅ 0)
      ⊢ iprop((((∃ W, owes (c : Thread nD τ) (OR c r) W) ∗ semVal (dCell c sem) 0 ∗ P)
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  subst hP
  exact wp_wait_close wq wo K c sem h6 hN r hlv

set_option maxHeartbeats 4000000 in
set_option maxRecDepth 16000 in
theorem sound_body (y : cc0_stg5_0.ty.Contents (Elt F)) (W : Waits sig Unit) (Kt : PUnit → sProp 𝕄) :
    iprop(bodyPre wq wo K c x k v y W ∗ (bodyPost wq wo c x k v -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            cc0_scratch2 cc0_scratch3 cc0_scratch4 cc0_scratch5 cc0_scratch6) Kt := by
  rw [cc0_body_eq_skeleton]; unfold cc0_body_skel
  unfold bodyPre opened
  iintro ⟨⟨⟨#HI, #Hlev, ⟨#HrP, #HrN, ⟨#HrQs0, #HrQs1, #HrQs2⟩, ⟨#HrQr0, #HrQr1, #HrQr2⟩, ⟨#HrOs0, #HrOs1, #HrOs2⟩, ⟨#HrOr0, #HrOr1, #HrOr2⟩, #HrCq, #HrCo⟩,
      ⟨HaB, ⟨HaQs0, HaQs1, HaQs2⟩, ⟨HaQr0, HaQr1, HaQr2⟩, ⟨HaOs0, HaOs1, HaOs2⟩, ⟨HaOr0, HaOr1, HaOr2⟩, HaCq, HaCo⟩,
      ⟨HtP, HtN, ⟨HtQs0, HtQs1, HtQs2⟩, ⟨HtQr0, HtQr1, HtQr2⟩, ⟨HtOs0, HtOs1, HtOs2⟩, ⟨HtOr0, HtOr1, HtOr2⟩, HtCq, HtCo⟩,
      ⟨HcB, ⟨HcQr0, HcQr1, HcQr2⟩, ⟨HcOr0, HcOr1, HcOr2⟩⟩⟩,
    HO, Hq, Ho, Hx, Hwq, Hk, Hv, Hwo, Hy⟩, HK⟩
  ihave Hq := (q_split c) $$ Hq
  icases Hq with ⟨Hq0, Hq1, Hq2, Hq3⟩
  ihave Ho := (o_split c) $$ Ho
  icases Ho with ⟨Ho0, Ho1, Ho2, Ho3⟩
  -- part 1
  rw [wp_bind, k0_part1_eq_skeleton]; unfold k0_part1_skel
  simp only [semSignalWord, semWaitWord, Prog.lift, Prog.bind_op, Prog.bind_ret, Prog.pure_eq_ret, wp_deviceId, dev1_eq c, dev2_eq c]
  unfold O₀
  iapply (Rounds.wp_signal 𝒱₀ ER (ringRd wq wo) (c : Thread nD τ) none (dst := (prv c : Thread nD τ)) (κ := K (barCell (prv c)))
      (d := true) (by rw [duties_bar]; exact Finset.mem_univ _) ((amount_bar wq wo (prv c) true).trans (by decide)) () (O₁ c) rfl)
    $$ [HO HtP Hq1 Hq2 Hq3 Ho1 Ho2 Ho3]
  · isplitr; · iapply (inv_bar wq wo K (prv c)); iexact HI
    isplitl [HO]; · iexact HO
    isplitl [HtP]; · iexact HtP
    isplitl [Hq1 Hq2 Hq3 Ho1 Ho2 Ho3]
    · rw [payload_bar_true]; unfold barPay grant; rw [nxt_prv]
      isplitl [Hq1 Ho1]
      · isplitl [Hq1]
        · isplitl [Hq1]; · iexact Hq1
          iexact HrQr0
        · isplitl [Ho1]; · iexact Ho1
          iexact HrOr0
      isplitl [Hq2 Ho2]
      · isplitl [Hq2]
        · isplitl [Hq2]; · iexact Hq2
          iexact HrQr1
        · isplitl [Ho2]; · iexact Ho2
          iexact HrOr1
      · isplitl [Hq3]
        · isplitl [Hq3]; · iexact Hq3
          iexact HrQr2
        · isplitl [Ho3]; · iexact Ho3
          iexact HrOr2
    iexact HrP
  iintro HO
  unfold O₁
  iapply (Rounds.wp_signal 𝒱₀ ER (ringRd wq wo) (c : Thread nD τ) none (dst := (nxt c : Thread nD τ)) (κ := K (barCell (nxt c)))
      (d := false) (by rw [duties_bar]; exact Finset.mem_univ _) ((amount_bar wq wo (nxt c) false).trans (by decide)) () (OR c 3) rfl)
    $$ [HO HtN]
  · isplitr; · iapply (inv_bar wq wo K (nxt c)); iexact HI
    isplitl [HO]; · iexact HO
    isplitl [HtN]; · iexact HtN
    isplitr; · rw [payload_bar_false]; iempintro
    iexact HrN
  iintro HO
  iapply (wp_wait_bar wq wo K c _ rfl _ rfl) $$ [HcB HO HaB]
  · isplitr; · iexact HI
    isplitr; · iexact Hlev
    isplitl [HcB]; · iexact HcB
    isplitl [HO]; · iexact HO
    iexact HaB
  iintro ⟨⟨%W0, HO⟩, HzB, Hp⟩
  unfold barPay grant
  icases Hp with ⟨⟨HgQ0, HgO0⟩, ⟨HgQ1, HgO1⟩, HgQ2, HgO2⟩
  rw [wp_ret]; imodintro
  dsimp only
  -- part 2
  rw [wp_bind, k0_part2_eq_skeleton]; unfold k0_part2_skel
  simp only [Prog.lift, Prog.bind_op, Prog.bind_ret, Prog.pure_eq_ret]
  iapply (wp_copyQ wq wo K c) $$ [Hwq Hq0 HtCq]
  · isplitr; · iexact HI
    isplitl [Hwq]; · iexact Hwq
    isplitl [Hq0]; · iexact Hq0
    isplitl [HtCq]; · iexact HtCq
    iexact HrCq
  iintro HcCq
  iapply (wp_copyO wq wo K c) $$ [Hwo Ho0 HtCo]
  · isplitr; · iexact HI
    isplitl [Hwo]; · iexact Hwo
    isplitl [Ho0]; · iexact Ho0
    isplitl [HtCo]; · iexact HtCo
    iexact HrCo
  iintro HcCo
  iapply (wp_wait_close wq wo K c cqS (by decide) (q_credit 0) 3 (by show 0 + 3 < 5; decide)) $$ [HcCq HO HaCq]
  · isplitr; · iexact HI
    isplitr; · iexact Hlev
    isplitl [HcCq]; · iexact HcCq
    isplitl [HO]; · iexact HO
    iexact HaCq
  iintro ⟨⟨%W1, HO⟩, HzCq, Hd⟩
  ihave Hd := (show dPay wq wo c (cqS : DmaSem sig).val ⊢ iprop(qOwn c 0 fullShare (wq (back c 0)) ∗ stgAt c cc0_stg1_0 (wq c)) by
    rw [back_zero]; exact Entails.refl _) $$ Hd
  icases Hd with ⟨Hq0, Hwq⟩
  iapply (wp_wait_close wq wo K c coS (by decide) (o_credit 0) 3 (by show 0 + 3 < 5; decide)) $$ [HcCo HO HaCo]
  · isplitr; · iexact HI
    isplitr; · iexact Hlev
    isplitl [HcCo]; · iexact HcCo
    isplitl [HO]; · iexact HO
    iexact HaCo
  iintro ⟨⟨%W2, HO⟩, HzCo, Hd⟩
  ihave Hd := (show dPay wq wo c (coS : DmaSem sig).val ⊢ iprop(oOwn c 0 fullShare (wo (back c 0)) ∗ stgAt c cc0_stg4_0 (wo c)) by
    rw [back_zero]; exact Entails.refl _) $$ Hd
  icases Hd with ⟨Ho0, Hwo⟩
  rw [wp_ret]; imodintro
  dsimp only
  -- parts 3 and 4
  rw [wp_bind, k0_part3_eq_skeleton]; unfold k0_part3_skel
  refine wp_ret_keep c _ fun r3 h3 => ?_
  rw [wp_bind, k0_part4_eq_skeleton]; unfold k0_part4_skel
  simp only [Prog.lift, Prog.bind_op, Prog.bind_ret, Prog.pure_eq_ret]
  iapply (wp_loadX c x) $$ Hx
  iintro Hx
  iapply (wp_loadX c x) $$ Hx
  iintro Hx
  refine wp_ret_keep c _ fun r4 h4 => ?_
  have hm : r4.1 = maskOf c := by subst h4 h3; rfl
  have hx0 : r4.2.1 = shapeCast S512x768 (rowsAt x ![0, 0, 0] inb_S2x512x768_S1x512x768_0_0_0) shapeCasts_S1x512x768_S512x768 := by subst h4; rfl
  have hx1 : r4.2.2.1 = shapeCast S512x768 (rowsAt x ![1, 0, 0] inb_S2x512x768_S1x512x768_1_0_0) shapeCasts_S1x512x768_S512x768 := by subst h4; rfl
  have hz0 : r4.2.2.2.1 = zeroAcc := by subst h4; rfl
  have hz1 : r4.2.2.2.2 = zeroAcc := by subst h4; rfl
  clear h4 h3
  -- parts 5 and 6
  rw [wp_bind, k0_part5_eq_skeleton]; unfold k0_part5_skel
  simp only [Prog.lift, Prog.bind_op, Prog.bind_ret, Prog.pure_eq_ret]
  iapply (wp_hopQ wq wo K c 0 0 1 rfl rfl 0 rfl _ (dev3_eq c) (OR c 2 + Oo c 0)) $$ [Hq0 HgQ0 HO HtQs0 HtQr0]
  · iframe HI Hq0 HgQ0 HO HtQs0 HrQs0 HtQr0
  iintro ⟨Hq0, HcQs0, HO⟩
  iapply (wp_hopO wq wo K c 0 0 1 rfl rfl 0 rfl _ (dev4_eq c) (OR c 2)) $$ [Ho0 HgO0 HO HtOs0 HtOr0]
  · iframe HI Ho0 HgO0 HO HtOs0 HrOs0 HtOr0
  iintro ⟨Ho0, HcOs0, HO⟩
  iapply (wp_loadQ c 0) $$ Hq0
  iintro Hq0
  iapply (wp_loadK c k) $$ Hk
  iintro Hk
  refine wp_ret_keep c _ fun r5 h5 => ?_
  rw [wp_bind, k0_part6_eq_skeleton]; unfold k0_part6_skel
  simp only [Prog.lift, Prog.bind_op, Prog.bind_ret, Prog.pure_eq_ret]
  iapply (wp_loadV c v) $$ Hv
  iintro Hv
  refine wp_ret_keep c _ fun r6 h6 => ?_
  rw [wp_bind, k0_part7_eq_skeleton]; unfold k0_part7_skel
  refine wp_ret_keep c _ fun r7 h7 => ?_
  rw [wp_bind, k0_part8_eq_skeleton]; unfold k0_part8_skel
  refine wp_ret_keep c _ fun r8 h8 => ?_
  rw [wp_bind, k0_part9_eq_skeleton]; unfold k0_part9_skel
  simp only [Prog.lift, Prog.bind_op, Prog.bind_ret, Prog.pure_eq_ret]
  iapply (wp_loadO c 0) $$ Ho0
  iintro Ho0
  iapply (wp_loadQ c 0) $$ Hq0
  iintro Hq0
  iapply (wp_loadK c k) $$ Hk
  iintro Hk
  iapply (wp_loadV c v) $$ Hv
  iintro Hv
  refine wp_ret_keep c _ fun r9 h9 => ?_
  have e0 : r9.1 = step0 wq wo x k v c 0 zeroAcc := by
    subst h9 h8 h7 h6 h5
    dsimp only
    rw [pays_00, hm, hx0, hz0]; exact step0_at wq wo x k v c 0 0 _ rfl (by decide) _
  rw [wp_bind, k0_part10_eq_skeleton]; unfold k0_part10_skel
  refine wp_ret_keep c _ fun r10 h10 => ?_
  rw [wp_bind, k0_part11_eq_skeleton]; unfold k0_part11_skel
  refine wp_ret_keep c _ fun r11 h11 => ?_
  rw [wp_bind, k0_part12_eq_skeleton]; unfold k0_part12_skel
  refine wp_ret_keep c _ fun r12 h12 => ?_
  rw [wp_bind, k0_part13_eq_skeleton]; unfold k0_part13_skel
  simp only [Prog.lift, Prog.bind_op, Prog.bind_ret, Prog.pure_eq_ret]
  iapply (wp_loadO c 0) $$ Ho0
  iintro Ho0
  iapply (wp_await wq wo K c (qsS 0) (by decide) (q_credit 0) 2 (by show 0 + 2 < 5; decide) (qOwn c 0 fullShare.right (wq (back c 0))) rfl) $$ [HcQs0 HO HaQs0]
  · iframe HI Hlev HcQs0 HO HaQs0
  iintro ⟨⟨%WQs0, HO⟩, HzQs0, Hq0r⟩
  refine wp_ret_keep c _ fun r13 h13 => ?_
  have g0 : r13 = step1 wq wo x k v c 0 zeroAcc := by
    subst h13 h12 h11 h10 h9
    dsimp only
    rw [pays_01, hm, hx1, hz1]; exact step1_at wq wo x k v c 0 0 _ rfl (by decide) _
  rw [wp_bind, k0_part14_eq_skeleton]; unfold k0_part14_skel
  simp only [Prog.lift, Prog.bind_op, Prog.bind_ret, Prog.pure_eq_ret]
  iapply (wp_await wq wo K c (qrS 0) (by decide) (q_credit 1) 2 (by show 2 + 2 < 5; decide) (qOwn c 1 fullShare (wq (back c 1))) rfl) $$ [HcQr0 HO HaQr0]
  · iframe HI Hlev HcQr0 HO HaQr0
  iintro ⟨⟨%WQr0, HO⟩, HzQr0, Hq1⟩
  iapply (wp_await wq wo K c (osS 0) (by decide) (o_credit 0) 2 (by show 0 + 2 < 5; decide) (oOwn c 0 fullShare.right (wo (back c 0))) rfl) $$ [HcOs0 HO HaOs0]
  · iframe HI Hlev HcOs0 HO HaOs0
  iintro ⟨⟨%WOs0, HO⟩, HzOs0, Ho0r⟩
  iapply (wp_await wq wo K c (orS 0) (by decide) (o_credit 1) 2 (by show 2 + 2 < 5; decide) (oOwn c 1 fullShare (wo (back c 1))) rfl) $$ [HcOr0 HO HaOr0]
  · iframe HI Hlev HcOr0 HO HaOr0
  iintro ⟨⟨%WOr0, HO⟩, HzOr0, Ho1⟩
  refine wp_ret_keep c _ fun r14 h14 => ?_
  -- hop 1 and its group
  rw [wp_bind, k0_part15_eq_skeleton]; unfold k0_part15_skel
  simp only [Prog.lift, Prog.bind_op, Prog.bind_ret, Prog.pure_eq_ret]
  iapply (wp_hopQ wq wo K c 1 1 2 rfl rfl 1 rfl _ (dev5_eq c) (OR c 1 + Oo c 1)) $$ [Hq1 HgQ1 HO HtQs1 HtQr1]
  · iframe HI Hq1 HgQ1 HO HtQs1 HrQs1 HtQr1
  iintro ⟨Hq1, HcQs1, HO⟩
  iapply (wp_hopO wq wo K c 1 1 2 rfl rfl 1 rfl _ (dev6_eq c) (OR c 1)) $$ [Ho1 HgO1 HO HtOs1 HtOr1]
  · iframe HI Ho1 HgO1 HO HtOs1 HrOs1 HtOr1
  iintro ⟨Ho1, HcOs1, HO⟩
  iapply (wp_loadQ c 1) $$ Hq1
  iintro Hq1
  iapply (wp_loadK c k) $$ Hk
  iintro Hk
  refine wp_ret_keep c _ fun r15 h15 => ?_
  rw [wp_bind, k0_part16_eq_skeleton]; unfold k0_part16_skel
  simp only [Prog.lift, Prog.bind_op, Prog.bind_ret, Prog.pure_eq_ret]
  iapply (wp_loadV c v) $$ Hv
  iintro Hv
  refine wp_ret_keep c _ fun r16 h16 => ?_
  rw [wp_bind, k0_part17_eq_skeleton]; unfold k0_part17_skel
  refine wp_ret_keep c _ fun r17 h17 => ?_
  rw [wp_bind, k0_part18_eq_skeleton]; unfold k0_part18_skel
  refine wp_ret_keep c _ fun r18 h18 => ?_
  rw [wp_bind, k0_part19_eq_skeleton]; unfold k0_part19_skel
  simp only [Prog.lift, Prog.bind_op, Prog.bind_ret, Prog.pure_eq_ret]
  iapply (wp_loadO c 1) $$ Ho1
  iintro Ho1
  iapply (wp_loadQ c 1) $$ Hq1
  iintro Hq1
  iapply (wp_loadK c k) $$ Hk
  iintro Hk
  iapply (wp_loadV c v) $$ Hv
  iintro Hv
  refine wp_ret_keep c _ fun r19 h19 => ?_
  have e1 : r19.1 = step0 wq wo x k v c 1 (step0 wq wo x k v c 0 zeroAcc) := by
    subst h19 h18 h17 h16 h15
    dsimp only
    rw [pays_10, hm, hx0, e0]; exact step0_at wq wo x k v c 1 1 _ rfl (by decide) _
  rw [wp_bind, k0_part20_eq_skeleton]; unfold k0_part20_skel
  refine wp_ret_keep c _ fun r20 h20 => ?_
  rw [wp_bind, k0_part21_eq_skeleton]; unfold k0_part21_skel
  refine wp_ret_keep c _ fun r21 h21 => ?_
  rw [wp_bind, k0_part22_eq_skeleton]; unfold k0_part22_skel
  refine wp_ret_keep c _ fun r22 h22 => ?_
  rw [wp_bind, k0_part23_eq_skeleton]; unfold k0_part23_skel
  simp only [Prog.lift, Prog.bind_op, Prog.bind_ret, Prog.pure_eq_ret]
  iapply (wp_loadO c 1) $$ Ho1
  iintro Ho1
  iapply (wp_await wq wo K c (qsS 1) (by decide) (q_credit 1) 1 (by show 0 + 1 < 5; decide) (qOwn c 1 fullShare.right (wq (back c 1))) rfl) $$ [HcQs1 HO HaQs1]
  · iframe HI Hlev HcQs1 HO HaQs1
  iintro ⟨⟨%WQs1, HO⟩, HzQs1, Hq1r⟩
  refine wp_ret_keep c _ fun r23 h23 => ?_
  have g1 : r23.1 = step1 wq wo x k v c 1 (step1 wq wo x k v c 0 zeroAcc) := by
    subst h23 h22 h21 h20 h19
    dsimp only
    rw [pays_11, hm, hx1, g0]; exact step1_at wq wo x k v c 1 1 _ rfl (by decide) _
  rw [wp_bind, k0_part24_eq_skeleton]; unfold k0_part24_skel
  simp only [Prog.lift, Prog.bind_op, Prog.bind_ret, Prog.pure_eq_ret]
  iapply (wp_await wq wo K c (qrS 1) (by decide) (q_credit 2) 1 (by show 3 + 1 < 5; decide) (qOwn c 2 fullShare (wq (back c 2))) rfl) $$ [HcQr1 HO HaQr1]
  · iframe HI Hlev HcQr1 HO HaQr1
  iintro ⟨⟨%WQr1, HO⟩, HzQr1, Hq2⟩
  iapply (wp_await wq wo K c (osS 1) (by decide) (o_credit 1) 1 (by show 0 + 1 < 5; decide) (oOwn c 1 fullShare.right (wo (back c 1))) rfl) $$ [HcOs1 HO HaOs1]
  · iframe HI Hlev HcOs1 HO HaOs1
  iintro ⟨⟨%WOs1, HO⟩, HzOs1, Ho1r⟩
  iapply (wp_await wq wo K c (orS 1) (by decide) (o_credit 2) 1 (by show 3 + 1 < 5; decide) (oOwn c 2 fullShare (wo (back c 2))) rfl) $$ [HcOr1 HO HaOr1]
  · iframe HI Hlev HcOr1 HO HaOr1
  iintro ⟨⟨%WOr1, HO⟩, HzOr1, Ho2⟩
  refine wp_ret_keep c _ fun r24 h24 => ?_
  -- hop 2 and its group
  rw [wp_bind, k0_part25_eq_skeleton]; unfold k0_part25_skel
  simp only [Prog.lift, Prog.bind_op, Prog.bind_ret, Prog.pure_eq_ret]
  iapply (wp_hopQ wq wo K c 2 2 3 rfl rfl 2 rfl _ (dev7_eq c) (OR c 0 + Oo c 2)) $$ [Hq2 HgQ2 HO HtQs2 HtQr2]
  · iframe HI Hq2 HgQ2 HO HtQs2 HrQs2 HtQr2
  iintro ⟨Hq2, HcQs2, HO⟩
  iapply (wp_hopO wq wo K c 2 2 3 rfl rfl 2 rfl _ (dev8_eq c) (OR c 0)) $$ [Ho2 HgO2 HO HtOs2 HtOr2]
  · iframe HI Ho2 HgO2 HO HtOs2 HrOs2 HtOr2
  iintro ⟨Ho2, HcOs2, HO⟩
  iapply (wp_loadQ c 2) $$ Hq2
  iintro Hq2
  refine wp_ret_keep c _ fun r25 h25 => ?_
  rw [wp_bind, k0_part26_eq_skeleton]; unfold k0_part26_skel
  simp only [Prog.lift, Prog.bind_op, Prog.bind_ret, Prog.pure_eq_ret]
  iapply (wp_loadK c k) $$ Hk
  iintro Hk
  iapply (wp_loadV c v) $$ Hv
  iintro Hv
  refine wp_ret_keep c _ fun r26 h26 => ?_
  rw [wp_bind, k0_part27_eq_skeleton]; unfold k0_part27_skel
  refine wp_ret_keep c _ fun r27 h27 => ?_
  rw [wp_bind, k0_part28_eq_skeleton]; unfold k0_part28_skel
  refine wp_ret_keep c _ fun r28 h28 => ?_
  rw [wp_bind, k0_part29_eq_skeleton]; unfold k0_part29_skel
  simp only [Prog.lift, Prog.bind_op, Prog.bind_ret, Prog.pure_eq_ret]
  iapply (wp_loadO c 2) $$ Ho2
  iintro Ho2
  iapply (wp_loadQ c 2) $$ Hq2
  iintro Hq2
  iapply (wp_loadK c k) $$ Hk
  iintro Hk
  refine wp_ret_keep c _ fun r29 h29 => ?_
  have e2 : r29.1 = step0 wq wo x k v c 2 (step0 wq wo x k v c 1 (step0 wq wo x k v c 0 zeroAcc)) := by
    subst h29 h28 h27 h26 h25
    dsimp only
    rw [pays_20, hm, hx0, e1]; exact step0_at wq wo x k v c 2 2 _ rfl (by decide) _
  rw [wp_bind, k0_part30_eq_skeleton]; unfold k0_part30_skel
  simp only [Prog.lift, Prog.bind_op, Prog.bind_ret, Prog.pure_eq_ret]
  iapply (wp_loadV c v) $$ Hv
  iintro Hv
  refine wp_ret_keep c _ fun r30 h30 => ?_
  rw [wp_bind, k0_part31_eq_skeleton]; unfold k0_part31_skel
  refine wp_ret_keep c _ fun r31 h31 => ?_
  rw [wp_bind, k0_part32_eq_skeleton]; unfold k0_part32_skel
  refine wp_ret_keep c _ fun r32 h32 => ?_
  rw [wp_bind, k0_part33_eq_skeleton]; unfold k0_part33_skel
  simp only [Prog.lift, Prog.bind_op, Prog.bind_ret, Prog.pure_eq_ret]
  iapply (wp_loadO c 2) $$ Ho2
  iintro Ho2
  iapply (wp_await wq wo K c (qsS 2) (by decide) (q_credit 2) 0 (by show 0 + 0 < 5; decide) (qOwn c 2 fullShare.right (wq (back c 2))) rfl) $$ [HcQs2 HO HaQs2]
  · iframe HI Hlev HcQs2 HO HaQs2
  iintro ⟨⟨%WQs2, HO⟩, HzQs2, Hq2r⟩
  refine wp_ret_keep c _ fun r33 h33 => ?_
  have g2 : r33.1 = step1 wq wo x k v c 2 (step1 wq wo x k v c 1 (step1 wq wo x k v c 0 zeroAcc)) := by
    subst h33 h32 h31 h30 h29
    dsimp only
    rw [pays_21, hm, hx1, g1]; exact step1_at wq wo x k v c 2 2 _ rfl (by decide) _
  rw [wp_bind, k0_part34_eq_skeleton]; unfold k0_part34_skel
  simp only [Prog.lift, Prog.bind_op, Prog.bind_ret, Prog.pure_eq_ret]
  iapply (wp_await wq wo K c (qrS 2) (by decide) (q_credit 3) 0 (by show 4 + 0 < 5; decide) (qOwn c 3 fullShare (wq (back c 3))) rfl) $$ [HcQr2 HO HaQr2]
  · iframe HI Hlev HcQr2 HO HaQr2
  iintro ⟨⟨%WQr2, HO⟩, HzQr2, Hq3⟩
  iapply (wp_await wq wo K c (osS 2) (by decide) (o_credit 2) 0 (by show 0 + 0 < 5; decide) (oOwn c 2 fullShare.right (wo (back c 2))) rfl) $$ [HcOs2 HO HaOs2]
  · iframe HI Hlev HcOs2 HO HaOs2
  iintro ⟨⟨%WOs2, HO⟩, HzOs2, Ho2r⟩
  iapply (wp_await wq wo K c (orS 2) (by decide) (o_credit 3) 0 (by show 4 + 0 < 5; decide) (oOwn c 3 fullShare (wo (back c 3))) rfl) $$ [HcOr2 HO HaOr2]
  · iframe HI Hlev HcOr2 HO HaOr2
  iintro ⟨⟨%WOr2, HO⟩, HzOr2, Ho3⟩
  refine wp_ret_keep c _ fun r34 h34 => ?_
  -- the last group
  rw [wp_bind, k0_part35_eq_skeleton]; unfold k0_part35_skel
  simp only [Prog.lift, Prog.bind_op, Prog.bind_ret, Prog.pure_eq_ret]
  iapply (wp_loadQ c 3) $$ Hq3
  iintro Hq3
  iapply (wp_loadK c k) $$ Hk
  iintro Hk
  iapply (wp_loadV c v) $$ Hv
  iintro Hv
  refine wp_ret_keep c _ fun r35 h35 => ?_
  rw [wp_bind, k0_part36_eq_skeleton]; unfold k0_part36_skel
  refine wp_ret_keep c _ fun r36 h36 => ?_
  rw [wp_bind, k0_part37_eq_skeleton]; unfold k0_part37_skel
  refine wp_ret_keep c _ fun r37 h37 => ?_
  rw [wp_bind, k0_part38_eq_skeleton]; unfold k0_part38_skel
  simp only [Prog.lift, Prog.bind_op, Prog.bind_ret, Prog.pure_eq_ret]
  iapply (wp_loadO c 3) $$ Ho3
  iintro Ho3
  refine wp_ret_keep c _ fun r38 h38 => ?_
  rw [wp_bind, k0_part39_eq_skeleton]; unfold k0_part39_skel
  simp only [Prog.lift, Prog.bind_op, Prog.bind_ret, Prog.pure_eq_ret]
  iapply (wp_loadQ c 3) $$ Hq3
  iintro Hq3
  iapply (wp_loadK c k) $$ Hk
  iintro Hk
  iapply (wp_loadV c v) $$ Hv
  iintro Hv
  refine wp_ret_keep c _ fun r39 h39 => ?_
  have e3 : r39.1 = step0 wq wo x k v c 3 (step0 wq wo x k v c 2 (step0 wq wo x k v c 1 (step0 wq wo x k v c 0 zeroAcc))) := by
    subst h39 h38 h37 h36 h35
    dsimp only
    rw [pays_30, hm, hx0, e2]; exact step0_at wq wo x k v c 3 3 _ rfl (by decide) _
  rw [wp_bind, k0_part40_eq_skeleton]; unfold k0_part40_skel
  refine wp_ret_keep c _ fun r40 h40 => ?_
  rw [wp_bind, k0_part41_eq_skeleton]; unfold k0_part41_skel
  refine wp_ret_keep c _ fun r41 h41 => ?_
  rw [wp_bind, k0_part42_eq_skeleton]; unfold k0_part42_skel
  simp only [Prog.lift, Prog.bind_op, Prog.bind_ret, Prog.pure_eq_ret]
  iapply (wp_loadO c 3) $$ Ho3
  iintro Ho3
  refine wp_ret_keep c _ fun r42 h42 => ?_
  have g3 : r42 = step1 wq wo x k v c 3 (step1 wq wo x k v c 2 (step1 wq wo x k v c 1 (step1 wq wo x k v c 0 zeroAcc))) := by
    subst h42 h41 h40 h39
    dsimp only
    rw [pays_31, hm, hx1, g2]; exact step1_at wq wo x k v c 3 3 _ rfl (by decide) _
  -- the two stores
  simp only [Prog.lift, Prog.bind_op, Prog.bind_ret, Prog.pure_eq_ret]
  iapply (wp_load 𝒱₀ (c : Thread nD τ) none Set.univ (m := outM) (Finset.subset_univ _)) $$ Hy
  iintro Hy
  iapply (wp_store 𝒱₀ (c : Thread nD τ) none Set.univ (m := outM) (r := outRect 0 inb_S2x512x768_S1x512x768_0_0_0) (Mk := Finset.univ) (Finset.subset_univ _)) $$ Hy
  iintro Hy
  iapply (wp_load 𝒱₀ (c : Thread nD τ) none Set.univ (m := outM) (Finset.subset_univ _)) $$ Hy
  iintro Hy
  iapply (wp_store 𝒱₀ (c : Thread nD τ) none Set.univ (m := outM) (r := outRect 1 inb_S2x512x768_S1x512x768_1_0_0) (Mk := Finset.univ) (Finset.subset_univ _)) $$ Hy
  iintro Hy
  rw [wp_ret]; imodintro
  ihave Hq0 := (owns_halves (c : Thread nD τ) (qSlot 0) fullShare (wq (back c 0))).2 $$ [Hq0 Hq0r]
  · isplitl [Hq0]; · iexact Hq0
    iexact Hq0r
  ihave Hq1 := (owns_halves (c : Thread nD τ) (qSlot 1) fullShare (wq (back c 1))).2 $$ [Hq1 Hq1r]
  · isplitl [Hq1]; · iexact Hq1
    iexact Hq1r
  ihave Hq2 := (owns_halves (c : Thread nD τ) (qSlot 2) fullShare (wq (back c 2))).2 $$ [Hq2 Hq2r]
  · isplitl [Hq2]; · iexact Hq2
    iexact Hq2r
  ihave Ho0 := (owns_halves (c : Thread nD τ) (oSlot 0) fullShare (wo (back c 0))).2 $$ [Ho0 Ho0r]
  · isplitl [Ho0]; · iexact Ho0
    iexact Ho0r
  ihave Ho1 := (owns_halves (c : Thread nD τ) (oSlot 1) fullShare (wo (back c 1))).2 $$ [Ho1 Ho1r]
  · isplitl [Ho1]; · iexact Ho1
    iexact Ho1r
  ihave Ho2 := (owns_halves (c : Thread nD τ) (oSlot 2) fullShare (wo (back c 2))).2 $$ [Ho2 Ho2r]
  · isplitl [Ho2]; · iexact Ho2
    iexact Ho2r
  ihave Hq := (q_join c (fun j => wq (back c j.val))) $$ [Hq0 Hq1 Hq2 Hq3]
  · isplitl [Hq0]; · iexact Hq0
    isplitl [Hq1]; · iexact Hq1
    isplitl [Hq2]; · iexact Hq2
    iexact Hq3
  ihave Ho := (o_join c (fun j => wo (back c j.val))) $$ [Ho0 Ho1 Ho2 Ho3]
  · isplitl [Ho0]; · iexact Ho0
    isplitl [Ho1]; · iexact Ho1
    isplitl [Ho2]; · iexact Ho2
    iexact Ho3
  have hout : outV ![r39.1, r42] = outV (accOf wq wo x k v c) := by rw [e3, g3]; rfl
  iapply HK
  unfold bodyPost own14
  isplitl [HzB]; · iexact HzB
  isplitl [HzQs0 HzQs1 HzQs2 HzQr0 HzQr1 HzQr2 HzOs0 HzOs1 HzOs2 HzOr0 HzOr1 HzOr2 HzCq HzCo]
  · iframe HzQs0 HzQs1 HzQs2 HzQr0 HzQr1 HzQr2 HzOs0 HzOs1 HzOs2 HzOr0 HzOr1 HzOr2 HzCq HzCo
  isplitl [HO]; · iexists _; iexact HO
  isplitl [Hq]; · iexact Hq
  isplitl [Ho]; · iexact Ho
  isplitl [Hx]; · iexact Hx
  isplitl [Hwq]; · iexact Hwq
  isplitl [Hk]; · iexact Hk
  isplitl [Hv]; · iexact Hv
  isplitl [Hwo]; · iexact Hwo
  iapply (Entails.of_eq (congrArg (fun f => stgAt (F := F) c cc0_stg5_0 f) ((writes_out y r39.1 r42 inb_S2x512x768_S1x512x768_0_0_0 inb_S2x512x768_S1x512x768_1_0_0).trans hout)))
  iexact Hy

end Cert.KernelIdealProof

end
-- ==== Proof.RegionKernelIdeal.lean ====
/-
# The kernel's region: its proof data, its body's obligation, its cells opened at entry
-/
module

public import proofs.«01_k».proof.Proof.BodyKernelIdeal
public import proofs.«01_k».proof.Proof.Gen.KernelIdeal.Frame
public import Idealize.ShloMosaic.Lib.Pipeline.RegionTalk
public import Idealize.ShloMosaic.Lib.Pipeline.RegionArrays

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the region finds in its windows -/

def wqv (c : Dev nD) : Vec F S768x512 .bf16 := iblk m c 1 t0_0
def wov (c : Dev nD) : Vec F S512x768 .bf16 := iblk m c 4 t0_0
def xv (c : Dev nD) : cc0_stg0_0.ty.Contents (Elt F) := iblk m c 0 t0_0
def kv (c : Dev nD) : cc0_stg2_0.ty.Contents (Elt F) := iblk m c 2 t0_0
def vv (c : Dev nD) : cc0_stg3_0.ty.Contents (Elt F) := iblk m c 3 t0_0
/-- What device `c` writes: the block of the output it computes. -/
def res (c : Dev nD) : cc0_stg5_0.ty.Contents (Elt F) := outV (accOf (wqv m) (wov m) (xv m c) (kv m c) (vv m c) c)

/-- What enters the region's invariant, and what is left of it. -/
def Xk (c : Dev nD) : sProp 𝕄 := iprop(∃ K, opened (wqv m) (wov m) K c)
def Yk (c : Dev nD) : sProp 𝕄 := semVal (barCell c) 0

def Φin (c : Dev nD) : sProp 𝕄 := iprop(Xk m c ∗ (qAny c ∗ oAny c) ∗ ∃ r, prngReg c r)
def Φout (c : Dev nD) : sProp 𝕄 := iprop(Yk c ∗ own14 (fun s => semVal (dCell c s) 0) ∗ (qAny c ∗ oAny c) ∗ ∃ r, prngReg c r)

/-- The region's proof data: it owes `O₀` before its one point, nothing after. -/
def dat (c : Dev nD) : Dat τ (Elt F) Unit ℕ UU ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => res m c
  Φ t := if t.val = 0 then Φin m c else Φout c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem last_ne : ¬ (Fin.last cfg0.N).val = 0 := by rw [Fin.val_last, show cfg0.N = 1 from N_0]; decide
theorem succ_ne : ¬ (Fin.succ (t0_0 : Fin cfg0.N)).val = 0 := Nat.succ_ne_zero _
theorem owed_zero (c : Dev nD) : (dat (F := F) m c).owed 0 = O₀ c := by
  show (if (0 : Fin (cfg0.N + 1)).val = 0 then O₀ c else 0) = O₀ c; exact if_pos rfl
theorem owed_first (c : Dev nD) : (dat (F := F) m c).owed (Fin.castSucc (t0_0 : Fin cfg0.N)) = O₀ c := by
  show (if (Fin.castSucc (t0_0 : Fin cfg0.N)).val = 0 then O₀ c else 0) = O₀ c; exact if_pos rfl
theorem owed_succ (c : Dev nD) : (dat (F := F) m c).owed (Fin.succ (t0_0 : Fin cfg0.N)) = 0 := by
  show (if (Fin.succ (t0_0 : Fin cfg0.N)).val = 0 then O₀ c else 0) = 0; exact if_neg succ_ne
theorem owed_last (c : Dev nD) : (dat (F := F) m c).owed (Fin.last _) = 0 := by
  show (if (Fin.last cfg0.N).val = 0 then O₀ c else 0) = 0; exact if_neg last_ne
theorem Φ_zero (c : Dev nD) : (dat (F := F) m c).Φ 0 = Φin m c := by
  show (if (0 : Fin (cfg0.N + 1)).val = 0 then Φin m c else Φout c) = _; exact if_pos rfl
theorem Φ_first (c : Dev nD) : (dat (F := F) m c).Φ (Fin.castSucc (t0_0 : Fin cfg0.N)) = Φin m c := by
  show (if (Fin.castSucc (t0_0 : Fin cfg0.N)).val = 0 then Φin m c else Φout c) = _; exact if_pos rfl
theorem Φ_succ (c : Dev nD) : (dat (F := F) m c).Φ (Fin.succ (t0_0 : Fin cfg0.N)) = Φout c := by
  show (if (Fin.succ (t0_0 : Fin cfg0.N)).val = 0 then Φin m c else Φout c) = _; exact if_neg succ_ne
theorem Φ_last (c : Dev nD) : (dat (F := F) m c).Φ (Fin.last _) = Φout c := by
  show (if (Fin.last cfg0.N).val = 0 then Φin m c else Φout c) = _; exact if_neg last_ne

theorem owesAt_intro (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound; rw [h0]
  iintro HO; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

theorem before_0 (c : Dev nD) (t : Fin cfg0.N) (d) : (dat m c).before 0 t d = iblk m c 0 t :=
  ((dat m c).before_in_eq_fetched 0 rfl (fun _ => rfl) (fun _ _ _ => rfl) (fun t => rfl) t d).trans rfl
theorem before_1 (c : Dev nD) (t : Fin cfg0.N) (d) : (dat m c).before 1 t d = iblk m c 1 t :=
  ((dat m c).before_in_eq_fetched 1 rfl (fun _ => rfl) (fun _ _ _ => rfl) (fun t => rfl) t d).trans rfl
theorem before_2 (c : Dev nD) (t : Fin cfg0.N) (d) : (dat m c).before 2 t d = iblk m c 2 t :=
  ((dat m c).before_in_eq_fetched 2 rfl (fun _ => rfl) (fun _ _ _ => rfl) (fun t => rfl) t d).trans rfl
theorem before_3 (c : Dev nD) (t : Fin cfg0.N) (d) : (dat m c).before 3 t d = iblk m c 3 t :=
  ((dat m c).before_in_eq_fetched 3 rfl (fun _ => rfl) (fun _ _ _ => rfl) (fun t => rfl) t d).trans rfl
theorem before_4 (c : Dev nD) (t : Fin cfg0.N) (d) : (dat m c).before 4 t d = iblk m c 4 t :=
  ((dat m c).before_in_eq_fetched 4 rfl (fun _ => rfl) (fun _ _ _ => rfl) (fun t => rfl) t d).trans rfl

/-- A staging buffer at given contents, as the obligation states it. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

set_option maxRecDepth 4000 in
set_option maxHeartbeats 1000000 in
/-- The body's obligation. -/
theorem body_obligation (c : Dev nD) : BodyObligation (dat (F := F) m c) (defs₀ (F := F)) 𝒱₀ () Set.univ := fun t => by
  rw [fin_N0 t]
  rw [bigSep_W0, bigSep_W0, Φ_first, Φ_succ]
  simp only [owns_whole_eq]
  show iprop(Φin m c ∗ (dat m c).owesAt () (Fin.castSucc (t0_0 : Fin cfg0.N))
      ∗ (∃ d, stg c cc0_stg0_0 ((dat m c).before 0 t0_0 d)) ∗ (∃ d, stg c cc0_stg1_0 ((dat m c).before 1 t0_0 d))
      ∗ (∃ d, stg c cc0_stg2_0 ((dat m c).before 2 t0_0 d)) ∗ (∃ d, stg c cc0_stg3_0 ((dat m c).before 3 t0_0 d))
      ∗ (∃ d, stg c cc0_stg4_0 ((dat m c).before 4 t0_0 d)) ∗ (∃ d, stg c cc0_stg5_0 ((dat m c).before 5 t0_0 d)))
    ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            cc0_scratch2 cc0_scratch3 cc0_scratch4 cc0_scratch5 cc0_scratch6)
        (fun _ => iprop(Φout c ∗ (dat m c).owesAt () (Fin.succ (t0_0 : Fin cfg0.N))
      ∗ stg c cc0_stg0_0 (xv m c) ∗ stg c cc0_stg1_0 (wqv m c) ∗ stg c cc0_stg2_0 (kv m c) ∗ stg c cc0_stg3_0 (vv m c)
      ∗ stg c cc0_stg4_0 (wov m c) ∗ stg c cc0_stg5_0 (res m c)))
  simp only [before_0, before_1, before_2, before_3, before_4]
  unfold Φin Φout Xk Yk
  iintro ⟨⟨⟨%K, Hg⟩, ⟨Hq, Ho⟩, Hp⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  subst h0; subst h1; subst h2; subst h3; subst h4; subst h5
  ihave HO' := (owesAt_elim m c _ (O₀ c) (owed_first m c)) $$ HO
  icases HO' with ⟨%W, HO⟩
  iapply (sound_body (wqv m) (wov m) K c (xv m c) (kv m c) (vv m c) _ W _)
  unfold bodyPre bodyPost
  isplitr [Hp]
  · isplitl [Hg]; · iexact Hg
    isplitl [HO]; · iexact HO
    isplitl [Hq]; · iexact Hq
    isplitl [Ho]; · iexact Ho
    isplitl [H0]; · iexact H0
    isplitl [H1]; · iexact H1
    isplitl [H2]; · iexact H2
    isplitl [H3]; · iexact H3
    isplitl [H4]; · iexact H4
    iexact H5
  iintro ⟨Hb, Hs, ⟨%W', HO⟩, Hq, Ho, H0, H1, H2, H3, H4, H5⟩
  isplitl [Hb Hs Hq Ho Hp]
  · isplitl [Hb]; · iexact Hb
    isplitl [Hs]; · iexact Hs
    isplitl [Hq Ho]; · isplitl [Hq] <;> iassumption
    iexact Hp
  isplitl [HO]; · iapply (owesAt_intro m c _ 0 (owed_succ m c) W'); iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

/-! ## The own cells, one by one and as a family -/

theorem sep_assoc_eq (P Q R : sProp 𝕄) : iprop((P ∗ Q) ∗ R) = iprop(P ∗ Q ∗ R) := BI.equiv_iff.mp ⟨BI.sep_assoc, BI.sep_assoc'⟩

theorem own14_eq (Φ : DmaSem sig → sProp 𝕄) : own14 Φ = bigSep Finset.univ fun i : Fin 14 => Φ ⟨6 + i.val, sem_lt (by omega)⟩ := by
  rw [bigSep_univ_eq_bigSepL [0, 1, 2, 3, 4, 5, 6, 7, 8, 9, 10, 11, 12, 13] (by decide) (by decide)]
  simp only [bigSepL_cons_cons, bigSepL_singleton]
  unfold own14
  simp only [sep_assoc_eq]
  rfl

theorem ownSems0_own14 (c : Dev nD) : (Pipeline.ownSems0 osem c : sProp 𝕄) = own14 fun s => semVal (dCell c s) 0 := by
  rw [own14_eq]; rfl

/-- Device `c`'s share of the ring's resources, its own cells not yet open. -/
def ghost (K : GSem nD τ sig → ℕ) (c : Dev nD) : sProp 𝕄 :=
  iprop(invs (wqv m) (wov m) K ∗ (reached ER (barCell (prv c)) 0 ∗ reached ER (barCell (nxt c)) 0)
    ∗ (atPos ER (barCell c) 0 ∅ 0 ∗ own14 fun s => openTok ER (dCell c s))
    ∗ (dutyTok ER (barCell (prv c)) 0 true ∗ dutyTok ER (barCell (nxt c)) 0 false ∗ own14 fun s => dutyTok ER (dCell (paid c s.val) s) 0 false))

def credits (c : Dev nD) : sProp 𝕄 :=
  iprop(cred (tallyAt (barCell c) () 2) ∗ (cred (tallyAt (dCell c (qrS 0)) () N) ∗ cred (tallyAt (dCell c (qrS 1)) () N) ∗ cred (tallyAt (dCell c (qrS 2)) () N))
      ∗ (cred (tallyAt (dCell c (orS 0)) () N) ∗ cred (tallyAt (dCell c (orS 1)) () N) ∗ cred (tallyAt (dCell c (orS 2)) () N)))

def Tk (c : Dev nD) : sProp 𝕄 := iprop((∃ K, ghost m K c) ∗ credits c)

theorem open_one (K : GSem nD τ sig → ℕ) (c : Dev nD) (s : DmaSem sig) (h : 6 ≤ s.val) :
    iprop(invs (wqv m) (wov m) K ∗ (openTok ER (dCell c s) ∗ semVal (dCell c s) 0))
      ⊢ (|={Set.univ}=> (reached ER (dCell c s) 0 ∗ atPos ER (dCell c s) 0 ∅ 0) : sProp 𝕄) := by
  iintro ⟨#HI, Ho, Hs⟩
  imod (Rounds.cell_open ER (ringRd (wqv m) (wov m)) (g := dCell c s) (Set.mem_univ (K (dCell c s)))) $$ [Ho Hs] with ⟨Ha, Hr⟩
  · isplitr; · iapply (inv_dma (wqv m) (wov m) K c s h); iexact HI
    isplitl [Ho] <;> iassumption
  imodintro
  isplitl [Hr] <;> iassumption

/-- All fourteen opened. -/
theorem open_all (K : GSem nD τ sig → ℕ) (c : Dev nD) :
    iprop(invs (wqv m) (wov m) K ∗ ((own14 fun s => openTok ER (dCell c s)) ∗ own14 fun s => semVal (dCell c s) 0))
      ⊢ (|={Set.univ}=> ((own14 fun s => reached ER (dCell c s) 0) ∗ own14 fun s => atPos ER (dCell c s) 0 ∅ 0) : sProp 𝕄) := by
  rw [own14_eq, own14_eq, own14_eq, own14_eq]
  refine (sep_mono_right (BI.bigSep_sep _ _ _).ge).trans ?_
  refine (bigSep_with_persistent (S := Finset.univ) (R := invs (wqv m) (wov m) K) fun i _ =>
    open_one m K c ⟨6 + i.val, sem_lt (by omega)⟩ (Nat.le_add_right 6 _)).trans ?_
  exact (bigSep_fupd _ _).trans (fupd_mono (BI.bigSep_sep _ _ _).le)

theorem hopen (c : Dev nD) : iprop(Tk m c ∗ Pipeline.ownSems0 osem c ∗ levAts L lv) ⊢ (|={Set.univ}=> Xk m c : sProp 𝕄) := by
  rw [ownSems0_own14]
  unfold Tk Xk ghost
  iintro ⟨⟨⟨%K, #HI, ⟨#HrP, #HrN⟩, ⟨HaB, Ho⟩, Ht⟩, Hc⟩, Hs, #Hlev⟩
  imod (open_all m K c) $$ [Ho Hs] with ⟨Hr, Ha⟩
  · isplitr; · iexact HI
    isplitl [Ho] <;> iassumption
  imodintro
  iexists K
  unfold opened credits
  isplitr; · iexact HI
  isplitr; · iexact Hlev
  isplitl [Hr]
  · isplitr; · iexact HrP
    isplitr; · iexact HrN
    iexact Hr
  isplitl [HaB Ha]; · isplitl [HaB] <;> iassumption
  isplitl [Ht]; · iexact Ht
  iexact Hc

theorem scopedRest_any (c : Dev nD) :
    (Pipeline.scopedRest (Ix := Unit) (Name := ℕ) (U := UU) (Lvl := ℕ) (Val := Elt F) (Pipeline.pin (pcfgs (F := F)) adm 0).spec c : sProp 𝕄)
      = iprop(qAny c ∗ oAny c) := by
  exact scopedRest0_eq c

end Cert.KernelIdealProof

end
-- ==== Proof.LaunchKernelIdeal.lean ====
/-
# The launch: the ring's resources dealt, @main as its segments, and its run
-/
module

public import proofs.«01_k».proof.Proof.RegionKernelIdeal
public import Idealize.ShloMosaic.Lib.Pipeline.FrameTail
public import Idealize.ShloMosaic.Lib.Quiescent

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers between the segments -/

abbrev W0 (c : Dev nD) : Valuation τ sig (Elt F) := fun b => m (c, b)
abbrev W1 (c : Dev nD) : Valuation τ sig (Elt F) := StableHlo.after hostOps0 (W0 m c)
def W2 (c : Dev nD) : Valuation τ sig (Elt F) :=
  Function.update (W1 m c) (Proc.devRef .tc main_v8) ((dat m c).arrAt 5 cfg0.N)

theorem W2_out (c : Dev nD) : W2 m c (Proc.devRef .tc main_v8) = (dat m c).arrAt 5 cfg0.N := Function.update_self ..
theorem W2_of_ne (c : Dev nD) {b : DevRef τ sig} (h : b ≠ Proc.devRef .tc main_v8) : W2 m c b = W1 m c b := Function.update_of_ne h ..

theorem W2_in (c : Dev nD) (b : Ref sig .tc) (h : b ≠ main_v8) : W2 m c b = V m c b := W2_of_ne m c (StableHlo.devRef_ne_of_ne h)

abbrev ucR : Finset (DevRef τ sig) := Pipeline.ucRefs τ sig
abbrev arrR : Finset (DevRef τ sig) := Pipeline.arrRefs spec0

theorem arr_sub : arrR ⊆ ucR := Pipeline.arrRefs_sub_ucRefs spec0 (by decide)

/-! ## The region as a segment -/

theorem O₀_cut (c : Dev nD) (t : Fin (cfg0.N + 1)) (g : GSem nD τ sig) (i : Unit) (h : 0 < (dat m c).owed t g i) :
    i ∈ L g ∧ (0 : ℕ) < lv g i := by
  rw [show (dat m c).owed t = if t.val = 0 then O₀ c else 0 from rfl] at h
  split at h
  · exact O₀_lv h
  · exact absurd h (Nat.lt_irrefl 0)

theorem lv_stage : ∀ (w : Fin 6) (s : Fin (spec0 w).nbuf) (c : Dev nD), lv ((c : Thread nD τ), .dma ((spec0 w).sem s)) () = 0 := by
  intro w s c
  show (if 9 ≤ ((spec0 w).sem s).val ∧ ((spec0 w).sem s).val < 12 then ((spec0 w).sem s).val - 7
    else if 15 ≤ ((spec0 w).sem s).val ∧ ((spec0 w).sem s).val < 18 then ((spec0 w).sem s).val - 13 else 0) = 0
  revert w s; decide

theorem hin (c : Dev nD) :
    iprop(Pipeline.scopedRest (Pipeline.pin (pcfgs (F := F)) adm 0).spec c ∗ (∃ r, prngReg c r) ∗ StableHlo.held (c.tc : Thread nD τ) (∅ : Finset (DevRef τ sig)) (W1 m c) ∗ Xk m c)
      ⊢ (pdats m 0 c).Φ 0 := by
  rw [scopedRest_any, show (pdats m 0 c).Φ 0 = Φin m c from Φ_zero m c]
  unfold Φin
  iintro ⟨Hs, Hp, -, HX⟩
  isplitl [HX]; · iexact HX
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) (∅ : Finset (DevRef τ sig)) (W2 m c) ∗ Pipeline.ownSems0 osem c ∗ Yk c) := by
  rw [scopedRest_any, ownSems0_own14, show (pdats m 0 c).Φ (Fin.last _) = Φout c from Φ_last m c]
  unfold Φout
  iintro ⟨Hb, Hs, Hq, Hp⟩
  isplitl [Hq]; · iexact Hq
  isplitl [Hp]; · iexact Hp
  isplitr; · unfold StableHlo.held; rw [BI.bigSep_empty]; iempintro
  isplitl [Hs]; · iexact Hs
  iexact Hb

theorem share_eq (c : Dev nD) (w : Fin cfg0.W) : (dat m c).share w = fullShare := by unfold Dat.share; split <;> rfl

theorem hW2 (c : Dev nD) (w : Fin cfg0.W) : (dat m c).arrAt w cfg0.N = W2 m c (Proc.devRef .tc (Pipeline.arrRef spec0 w)) := by
  match w with
  | 0 => exact ((dat m c).arrAt_in 0 rfl _).trans (W2_in m c main_v5 (by decide)).symm
  | 1 => exact ((dat m c).arrAt_in 1 rfl _).trans (W2_in m c main_v6 (by decide)).symm
  | 2 => exact ((dat m c).arrAt_in 2 rfl _).trans (W2_in m c main_v2 (by decide)).symm
  | 3 => exact ((dat m c).arrAt_in 3 rfl _).trans (W2_in m c main_v4 (by decide)).symm
  | 4 => exact ((dat m c).arrAt_in 4 rfl _).trans (W2_in m c main_v7 (by decide)).symm
  | 5 => exact (W2_out m c).symm

theorem hrest (c : Dev nD) : ∀ b ∈ (ucR \ arrR) \ (∅ : Finset (DevRef τ sig)), W2 m c b = W1 m c b := fun b hb => by
  refine W2_of_ne m c fun h => ?_
  subst h
  exact (Finset.mem_sdiff.mp (Finset.mem_sdiff.mp hb).1).2 (by decide)

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ (ucR \ arrR) (Finset.empty_subset _) launch0.toP rfl (fun c => (body_obligation m c).loose)
    (fun _ => 0) O₀ (fun c => (owed_zero m c).trans (zero_add _).symm) (owed_last m) (fun _ => rfl) (share_eq m)
    (W1 m) (W2 m) (hrest m)
    (Tk m) Yk (Xk m) Yk (hopen m) (hin m) (hout m)
    (fun c => by iintro H; imodintro; iexact H)
    (fun _ => 0)
    ⟨fun c w s => by rw [L_tc]; exact Finset.mem_singleton_self _, fun c w s => (lv_stage w s c).le, fun c t g i h => O₀_cut m c t g i h⟩
    (fun _ => iprop(emp))
    (fun _ _ => rfl) (hW2 m)

/-- What rides beside the buffers up to the region. -/
def R (c : Dev nD) : sProp 𝕄 := iprop((Tk m c ∗ ∃ r, prngReg c r) ∗ ∃ W, owes (c : Thread nD τ) (O₀ c) W)

def host : Pipeline.HostSeg (Name := ℕ) (U := UU) (pcfgs (F := F)) defs₀ 𝒱₀ L lv :=
  Pipeline.HostSeg.ofOps _ _ _ _ _ ucR hostOps0
    (fun op h => Pipeline.sub_ucRefs op ((List.forall_iff_forall_mem.mp hostOps0_sub) op h))
    (fun op h => (List.forall_iff_forall_mem.mp hostOps0_fresh) op h) (W0 m) (R m)

theorem reg_pre (c : Dev nD) : iprop(StableHlo.held (c : Thread nD τ) ucR (W1 m c) ∗ R m c) ⊢ (reg m).pre c := by
  show _ ⊢ iprop(StableHlo.held (c.tc : Thread nD τ) arrR (W1 m c) ∗ (∃ r, prngReg c r)
    ∗ (StableHlo.held (c.tc : Thread nD τ) (ucR \ arrR) (W1 m c) ∗ emp) ∗ Tk m c ∗ ∃ Wd, owes (c : Thread nD τ) (0 + O₀ c) Wd)
  rw [StableHlo.held_sub_split (c.tc : Thread nD τ) arr_sub (W1 m c), zero_add]
  unfold R
  iintro ⟨⟨Ha, Hr⟩, ⟨HT, Hp⟩, HO⟩
  isplitl [Ha]; · iexact Ha
  isplitl [Hp]; · iexact Hp
  isplitl [Hr]
  · isplitl [Hr]; · iexact Hr
    iempintro
  isplitl [HT]; · iexact HT
  iexact HO

abbrev Tₙ (c : Dev nD) : sProp 𝕄 := iprop(StableHlo.held (c : Thread nD τ) ucR (W2 m c) ∗ semVal (barCell c) 0)

theorem reg_post (c : Dev nD) : (reg m).post c ⊢ iprop(Tₙ m c ∗ ∃ W, owes (c : Thread nD τ) (0 : CellTallies nD τ sig Unit) W) := by
  show iprop(StableHlo.held (c.tc : Thread nD τ) arrR (W2 m c) ∗ (∃ r, prngReg c r)
    ∗ (StableHlo.held (c.tc : Thread nD τ) (ucR \ arrR) (W2 m c) ∗ emp) ∗ Yk c ∗ ∃ Wd, owes (c : Thread nD τ) (0 : CellTallies nD τ sig Unit) Wd) ⊢ _
  unfold Tₙ
  rw [StableHlo.held_sub_split (c.tc : Thread nD τ) arr_sub (W2 m c)]
  unfold Yk
  iintro ⟨Ha, -, ⟨Hr, -⟩, Hb, HO⟩
  isplitr [HO]
  · isplitl [Ha Hr]; · isplitl [Ha] <;> iassumption
    iexact Hb
  iexact HO

/-! ## The ring's resources, minted and dealt -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The duty tokens of the cells of one device: its barrier's two, and one for each of its own DMA cells. -/
abbrev tokOf (cj : Dev nD × (Bool ⊕ Fin 14)) : GSem nD τ sig × ℕ × Bool := match cj.2 with
  | .inl b => (barCell cj.1, 0, b)
  | .inr i => (((cj.1 : Thread nD τ), osem i), 0, false)
theorem tokOf_inj : Function.Injective tokOf := by
  rintro ⟨c, j⟩ ⟨c', j'⟩ h
  have h1 : c = c' := by
    rcases j with b | i <;> rcases j' with b' | i' <;> exact congrArg (fun x : GSem nD τ sig × ℕ × Bool => x.1.1.1) h
  subst h1
  rcases j with b | i <;> rcases j' with b' | i'
  · rw [show b = b' from congrArg (fun x : GSem nD τ sig × ℕ × Bool => x.2.2) h]
  · exact absurd (congrArg (fun x : GSem nD τ sig × ℕ × Bool => x.1.2) h).symm (osem_ne_bar i')
  · exact absurd (congrArg (fun x : GSem nD τ sig × ℕ × Bool => x.1.2) h) (osem_ne_bar i)
  · rw [osem_inj (congrArg (fun x : GSem nD τ sig × ℕ × Bool => x.1.2) h)]
def ringToks : Finset (GSem nD τ sig × ℕ × Bool) := Finset.univ.map ⟨tokOf, tokOf_inj⟩

/-- Whose cell number `6 + i` device `c` pays, over all devices and cells at once. -/
def around : Dev nD × Fin 14 ≃ Dev nD × Fin 14 where
  toFun p := (paid p.1 (6 + p.2.val), p.2)
  invFun p := (if (9 ≤ 6 + p.2.val ∧ 6 + p.2.val < 12) ∨ (15 ≤ 6 + p.2.val ∧ 6 + p.2.val < 18) then prv p.1 else p.1, p.2)
  left_inv p := by
    refine Prod.ext ?_ rfl
    dsimp only [paid]
    split <;> simp only [prv_nxt]
  right_inv p := by
    refine Prod.ext ?_ rfl
    dsimp only [paid]
    split <;> simp only [nxt_prv]

/-- Every token at the device that pays the duty. -/
theorem toks_around : bigSep ringToks (fun x => (dutyTok ER x.1 x.2.1 x.2.2 : sProp 𝕄))
    ⊢ bigSep Finset.univ fun c : Dev nD => iprop(dutyTok ER (barCell (prv c)) 0 true ∗ dutyTok ER (barCell (nxt c)) 0 false
      ∗ own14 fun s => dutyTok ER (dCell (paid c s.val) s) 0 false) := by
  have hbar (c : Dev nD) : (bigSep Finset.univ fun b : Bool => (dutyTok ER (barCell c) 0 b : sProp 𝕄))
      = iprop(dutyTok ER (barCell c) 0 true ∗ dutyTok ER (barCell c) 0 false) :=
    bigSep_univ_eq_bigSepL [true, false] (by decide) (by decide) _
  have hdma : (bigSep Finset.univ fun c : Dev nD => bigSep Finset.univ fun i : Fin 14 => (dutyTok ER ((c : Thread nD τ), osem i) 0 false : sProp 𝕄))
      = bigSep Finset.univ fun c : Dev nD => own14 fun s => dutyTok ER (dCell (paid c s.val) s) 0 false := by
    rw [← bigSep_univ_prod (fun p : Dev nD × Fin 14 => (dutyTok ER ((p.1 : Thread nD τ), osem p.2) 0 false : sProp 𝕄)), bigSep_univ_equiv around,
      bigSep_univ_prod]
    exact bigSep_congr fun c _ => (own14_eq fun s => (dutyTok ER (dCell (paid c s.val) s) 0 false : sProp 𝕄)).symm
  unfold ringToks
  rw [bigSep_map, bigSep_univ_prod]
  refine Entails.of_eq ?_
  rw [bigSep_congr (s := Finset.univ) (Ψ := fun c : Dev nD => iprop((dutyTok ER (barCell c) 0 true ∗ dutyTok ER (barCell c) 0 false)
      ∗ bigSep Finset.univ fun i : Fin 14 => (dutyTok ER ((c : Thread nD τ), osem i) 0 false : sProp 𝕄)))
    fun c _ => by rw [bigSep_univ_sum, ← hbar c]; rfl]
  rw [bigSep_sep', bigSep_sep', bigSep_sep', bigSep_sep', hdma,
    bigSep_univ_equiv ring.symm (fun c : Dev nD => (dutyTok ER (barCell c) 0 true : sProp 𝕄)),
    bigSep_univ_equiv ring (fun c : Dev nD => (dutyTok ER (barCell c) 0 false : sProp 𝕄))]
  exact sep_assoc_eq _ _ _

def u₀ : UU :=
  (initOf (Pipeline.cells (Pipeline.pin (pcfgs (F := F)) adm) cellOf_inj) (Pipeline.launchToks (Pipeline.pin (pcfgs (F := F)) adm) cellOf_inj),
    launchOf barCells scCells ringToks)

/-- The launch element, on device 0. -/
def G (c : Dev nD) : sProp 𝕄 := if c = 0 then BI.own (ER (launchOf barCells scCells ringToks)) else iprop(emp)
theorem bigSep_G : bigSep Finset.univ (G (F := F)) = BI.own (ER (launchOf barCells scCells ringToks)) := by
  rw [bigSep_univ_at _ (0 : Dev nD), bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What every device may consult. -/
def records (κ : GSem nD τ sig → ℕ) : sProp 𝕄 :=
  iprop(invs (wqv m) (wov m) κ ∗ bigSep barCells fun g => reached ER g 0)
instance records_persistent (κ : GSem nD τ sig → ℕ) : BI.Persistent (records m κ) := by unfold records; infer_instance

theorem reached_bar (c : Dev nD) : (bigSep barCells fun g => (reached ER g 0 : sProp 𝕄)) ⊢ reached ER (barCell c) 0 :=
  bigSep_elim (Finset.mem_map_of_mem barEmb (Finset.mem_univ c))

/-- What stays with device `c`. -/
def linear (c : Dev nD) : sProp 𝕄 :=
  iprop((atPos ER (barCell c) 0 ∅ 0 ∗ own14 fun s => openTok ER (dCell c s))
    ∗ (dutyTok ER (barCell (prv c)) 0 true ∗ dutyTok ER (barCell (nxt c)) 0 false ∗ own14 fun s => dutyTok ER (dCell (paid c s.val) s) 0 false))

theorem ghost_intro (κ : GSem nD τ sig → ℕ) (c : Dev nD) : iprop(records m κ ∗ linear c) ⊢ iprop(∃ K, ghost m K c) := by
  unfold records linear ghost
  iintro ⟨⟨#HI, #HR⟩, Ha, Ht⟩
  iexists κ
  isplitr; · iexact HI
  isplitr
  · isplitr; · iapply (reached_bar (F := F) (prv c)); iexact HR
    iapply (reached_bar (F := F) (nxt c)); iexact HR
  isplitl [Ha] <;> iassumption

/-! ## The launch credit -/

theorem tally_bar (d c : Dev nD) (k : ℕ) : (tallyAt (barCell d) () k : CellTallies nD τ sig Unit) (barCell c) () = if d = c then k else 0 := by
  rw [tallyAt_apply]
  refine if_congr ⟨fun h => (congrArg (fun g : GSem nD τ sig => g.1.1) h.1).symm, fun h => ⟨by rw [h], rfl⟩⟩ rfl rfl
theorem tally_dma (d c : Dev nD) (s s' : DmaSem sig) (k : ℕ) :
    (tallyAt (dCell d s) () k : CellTallies nD τ sig Unit) (dCell c s') () = if s = s' then (if d = c then k else 0) else 0 := by
  rw [tallyAt_apply]
  by_cases hs : s = s'
  · subst hs
    rw [if_pos rfl]
    exact if_congr ⟨fun h => (congrArg (fun g : GSem nD τ sig => g.1.1) h.1).symm, fun h => ⟨by rw [h], rfl⟩⟩ rfl rfl
  · rw [if_neg hs, if_neg fun h => hs (SemLoc.dma.inj (congrArg Prod.snd h.1)).symm]
theorem tally_dma_bar (d c : Dev nD) (s : DmaSem sig) (k : ℕ) : (tallyAt (dCell d s) () k : CellTallies nD τ sig Unit) (barCell c) () = 0 := by
  rw [tallyAt_apply, if_neg fun h => nomatch (congrArg Prod.snd h.1 : SemLoc.reg barS = SemLoc.dma s)]
theorem tally_bar_dma (d c : Dev nD) (s : DmaSem sig) (k : ℕ) : (tallyAt (barCell d) () k : CellTallies nD τ sig Unit) (dCell c s) () = 0 := by
  rw [tallyAt_apply, if_neg fun h => nomatch (congrArg Prod.snd h.1 : SemLoc.dma s = SemLoc.reg barS)]

theorem O₀_bar (d c : Dev nD) : O₀ d (barCell c) () = (if nxt d = c then 1 else 0) + (if prv d = c then 1 else 0) := by
  simp only [O₀, O₁, OR, Pi.add_apply, Finsupp.add_apply, tally_bar, tally_dma_bar, Pi.zero_apply, Finsupp.zero_apply, Nat.zero_add, Nat.add_zero]
theorem O₀_qr (d c : Dev nD) (h : Fin 3) : O₀ d (dCell c (qrS h)) () = if nxt d = c then N else 0 := by
  simp only [O₀, O₁, OR, Pi.add_apply, Finsupp.add_apply, tally_bar_dma, tally_dma, Pi.zero_apply, Finsupp.zero_apply, Nat.zero_add, Nat.add_zero]
  generalize (N : ℕ) = k
  fin_cases h <;> simp [Fin.ext_iff]
theorem O₀_or (d c : Dev nD) (h : Fin 3) : O₀ d (dCell c (orS h)) () = if nxt d = c then N else 0 := by
  simp only [O₀, O₁, OR, Pi.add_apply, Finsupp.add_apply, tally_bar_dma, tally_dma, Pi.zero_apply, Finsupp.zero_apply, Nat.zero_add, Nat.add_zero]
  generalize (N : ℕ) = k
  fin_cases h <;> simp [Fin.ext_iff]

theorem sum_bar : ∀ c : Dev nD, (∑ d : Dev nD, ((if nxt d = c then 1 else 0) + (if prv d = c then 1 else 0))) = 2 := by decide
theorem sum_nxt (c : Dev nD) (k : ℕ) : (∑ d : Dev nD, (if nxt d = c then k else 0)) = k := by
  rw [Finset.sum_congr rfl fun d _ => if_congr (show nxt d = c ↔ d = prv c from ⟨fun h => by rw [← h, prv_nxt], fun h => by rw [h, nxt_prv]⟩) rfl rfl,
    Finset.sum_ite_eq' Finset.univ (prv c) fun _ => k, if_pos (Finset.mem_univ _)]

theorem launch_at (g : GSem nD τ sig) (k : ℕ) (h : ∑ d : Dev nD, O₀ d g () = k) :
    tallyOn g (launchCredit (Pipeline.owing O₀) 0 g) = (tallyAt g () k : CellTallies nD τ sig Unit) := by
  unfold tallyAt; refine congrArg _ (Finsupp.ext fun u => ?_); cases u
  rw [Pipeline.launchCredit_owing, Finsupp.single_eq_same, h]

theorem launch_bar (c : Dev nD) : tallyOn (barCell c) (launchCredit (Pipeline.owing O₀) 0 (barCell c)) = (tallyAt (barCell c) () 2 : CellTallies nD τ sig Unit) :=
  launch_at _ _ ((Finset.sum_congr rfl fun d _ => O₀_bar d c).trans (sum_bar c))
theorem launch_qr (c : Dev nD) (h : Fin 3) :
    tallyOn (dCell c (qrS h)) (launchCredit (Pipeline.owing O₀) 0 (dCell c (qrS h))) = (tallyAt (dCell c (qrS h)) () N : CellTallies nD τ sig Unit) :=
  launch_at _ _ ((Finset.sum_congr rfl fun d _ => O₀_qr d c h).trans (sum_nxt c N))
theorem launch_or (c : Dev nD) (h : Fin 3) :
    tallyOn (dCell c (orS h)) (launchCredit (Pipeline.owing O₀) 0 (dCell c (orS h))) = (tallyAt (dCell c (orS h)) () N : CellTallies nD τ sig Unit) :=
  launch_at _ _ ((Finset.sum_congr rfl fun d _ => O₀_or d c h).trans (sum_nxt c N))

abbrev creditSems : List (SemLoc sig) := [.reg barS, .dma (qrS 0), .dma (qrS 1), .dma (qrS 2), .dma (orS 0), .dma (orS 1), .dma (orS 2)]

theorem creds (c : Dev nD) : (Pipeline.launchCred O₀ c : sProp 𝕄) ⊢ credits c := by
  have e : (credits c : sProp 𝕄) = bigSep creditSems.toFinset fun sm => cred (tallyOn ((c : Thread nD τ), sm) (launchCredit (Pipeline.owing O₀) 0 ((c : Thread nD τ), sm))) := by
    rw [bigSep_eq_bigSepL_of_eq creditSems rfl (by decide)]
    unfold creditSems credits
    simp only [bigSepL_cons_cons, bigSepL_singleton, launch_bar, launch_qr, launch_or, sep_assoc_eq]
    rfl
  unfold Pipeline.launchCred
  rw [e]
  exact bigSep_subset (Finset.subset_univ _)

/-! ## The first thread state -/

theorem bigSep_pair {Φ Ψ : Dev nD → sProp 𝕄} :
    iprop(bigSep Finset.univ Φ ∗ bigSep Finset.univ Ψ) ⊢ bigSep Finset.univ (fun c => iprop(Φ c ∗ Ψ c)) := Entails.of_eq (bigSep_sep' _ _ _).symm
theorem bigSep_unpair {Φ Ψ : Dev nD → sProp 𝕄} :
    bigSep Finset.univ (fun c => iprop(Φ c ∗ Ψ c)) ⊢ iprop(bigSep Finset.univ Φ ∗ bigSep Finset.univ Ψ) := Entails.of_eq (bigSep_sep' _ _ _)

/-- What of a core's launch holdings is not the ring's. -/
def bundle (c : Dev nD) : sProp 𝕄 :=
  iprop(StableHlo.held (c : Thread nD τ) ucR (W0 m c) ∗ credits c ∗ owes (c : Thread nD τ) (O₀ c) ∅ ∗ ∃ r, prngReg c r)

abbrev T₀ (c : Dev nD) : sProp 𝕄 := iprop(StableHlo.held (c : Thread nD τ) ucR (W0 m c) ∗ R m c)

theorem T₀_intro (κ : GSem nD τ sig → ℕ) (c : Dev nD) : iprop(records m κ ∗ (linear c ∗ bundle m c)) ⊢ T₀ m c := by
  unfold bundle T₀ R Tk
  iintro ⟨#HR, Hl, Hh, Hc, HO, Hp⟩
  isplitl [Hh]; · iexact Hh
  isplitr [HO]
  · isplitr [Hp]
    · isplitl [Hl]
      · iapply (ghost_intro m κ c)
        isplitr; · iexact HR
        iexact Hl
      iexact Hc
    iexact Hp
  iexists ∅; iexact HO

theorem unscoped_eq : ∀ sm : SemLoc sig, sm.isScoped .tc = false → sm = .reg barS := by decide

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) ucR (W0 m c) from Pipeline.unscopedBufs_held c (W0 m c),
      unscopedSems0_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄)) ⊢ bigSep Finset.univ (fun c : Dev nD => own14 fun s => openTok ER (dCell c s)) :=
    Entails.of_eq (by
      rw [bigSep_map, bigSep_univ_prod]
      exact bigSep_congr fun c _ => (own14_eq fun s => (openTok ER (dCell c s) : sProp 𝕄)).symm)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := bigSep_unpair $$ H'; icases H2 with ⟨HB, H3⟩
  ihave H4 := bigSep_unpair $$ H3; icases H4 with ⟨Hv, HG⟩
  ihave Hu := (show bigSep Finset.univ (G (F := F)) ⊢ BI.own (ER (launchOf barCells scCells ringToks)) from Entails.of_eq (bigSep_G (F := F))) $$ HG
  imod (Rounds.fund_launch ER (ringRd (wqv m) (wov m)) disjoint_cells (fun g _ h => h) ringToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records invs
    isplitr; · iexact Hinv
    iexact Hr
  iapply bigSep_pair
  isplitr [HB]
  · unfold linear
    iapply bigSep_pair
    isplitl [Hat Hopen]
    · iapply bigSep_pair
      isplitl [Hat]; · iapply hat $$ Hat
      iapply hop $$ Hopen
    iapply (toks_around (F := F)); iexact Htok
  · iexact HB

/-! ## The run -/

/-- Buffers held, and the machine's state: the memory holds what is held. -/
theorem held_read (c : Dev nD) (W : Valuation τ sig (Elt F)) (s' : Phys nD τ sig (Elt F)) :
    iprop(StableHlo.held (c : Thread nD τ) ucR W ∗ SI s')
      ⊢ (<pers> ⌜∀ b : Ref sig .tc, b.isScoped = false → s'.mem.mem ((c : Thread nD τ).loc b) = W b⌝ : sProp 𝕄) := by
  have one (b : Ref sig .tc) (hb : b.isScoped = false) : iprop(StableHlo.held (c : Thread nD τ) ucR W ∗ SI s')
      ⊢ (⌜s'.mem.mem ((c : Thread nD τ).loc b) = W b⌝ : sProp 𝕄) := by
    refine (sep_mono (bigSep_elim (Pipeline.devRef_mem_ucRefs hb)) .rfl).trans ?_
    show iprop((((c : Thread nD τ).loc b) ↦{fullShare} W b) ∗ SI s') ⊢ _
    iintro ⟨H, HSI⟩
    icombine HSI H gives %h
    ipureintro
    exact Buf.eq_of_forall_mem_univ h
  have hr : iprop(StableHlo.held (c : Thread nD τ) ucR W ∗ SI s')
      ⊢ (⌜∀ b : Ref sig .tc, b.isScoped = false → s'.mem.mem ((c : Thread nD τ).loc b) = W b⌝ : sProp 𝕄) :=
    fun x hx b hb => one b hb x hx
  exact hr.trans Laws.persistently_pure.2

/-- @main as its segments. -/
def segs : List (Pipeline.Seg (pcfgs (F := F)) adm (pdats m) () defs₀ 𝒱₀ L lv) := [.host (host m), .region (reg m)]

theorem main_eq (c : Dev nD) : main (F := F) c = Pipeline.Seg.run (segs m) := main_segs adm (pdats m) () 𝒱₀ L lv (host m) (reg m) rfl c

set_option backward.isDefEq.respectTransparency.types false in
/-- THE RUN: it ends, with every semaphore at zero, the arguments as launched, and the output at what the region wrote. -/
theorem run_main : θ_run defs (onTc (τ := τ) (main (F := F))) ⟨m, fun _ => 0, ρ⟩
    (fun r => (∀ c : Dev nD, r.2.mem ((c : Thread nD τ).loc main_v8) = (dat m c).arrAt 5 cfg0.N
        ∧ ∀ b : Ref sig .tc, b.isScoped = false → b ≠ main_v8 → r.2.mem ((c : Thread nD τ).loc b) = V m c b)
      ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := ⟨fun c => .rfl, fun c => reg_pre m c, fun c => reg_post m c⟩)
    (hinit := init m ρ)
    (QY := fun c s => (∀ b : Ref sig .tc, b.isScoped = false → s.mem ((c : Thread nD τ).loc b) = W2 m c b) ∧ s.sem (barCell c) = 0)
    (hfin := fun c s' => by
      iintro ⟨⟨Hh, Hb⟩, HSI⟩
      icombine HSI Hb gives %hb
      ihave %h := (held_read c (W2 m c) s') $$ [Hh HSI]
      · isplitl [Hh] <;> iassumption
      imodintro
      isplitr
      · ipureintro
        exact ⟨h, by simpa using hb⟩
      iexact HSI)
    (hQ := fun s h hs => ⟨fun c => ⟨((h c).1 main_v8 (by decide)).trans (W2_out m c),
        fun b hb hne => ((h c).1 b hb).trans (W2_of_ne m c (StableHlo.devRef_ne_of_ne hne))⟩,
      sem_eq_zero hs fun c sm hsm => by
        obtain rfl := unscoped_eq sm hsm
        exact (h c).2⟩)

end Cert.KernelIdealProof

end
-- ==== Proof.Spec.lean ====
/-
# The attention, row by row

Plain functions on the extended reals that both programs compute: one row's scores, its softmax, its context.
-/
module

public import Idealize.ShloMosaic.Lib.Pointwise

@[expose] public section

noncomputable section

namespace Cert.Spec

open Idealize.ShloMosaic

/-- The scale of the scores, the value of a masked score, and the start of a maximum. -/
def scale : EReal := Ideal.ofBits .f32 0x3E000000#32
def far : EReal := Ideal.ofBits .f32 0xCE6E6B28#32
def bot : EReal := Ideal.ofBits .f32 0xFF800000#32

/-- One row's score against key `j`. -/
def sc (mask : Fin 512 → Bool) (q : Fin 64 → EReal) (k : Fin 512 → Fin 64 → EReal) (j : Fin 512) : EReal :=
  bif mask j then (∑ d : Fin 64, q d * k j d) * scale else far

/-- A score less the row's maximum, exponentiated. -/
def ex (s : Fin 512 → EReal) (j : Fin 512) : EReal := Ideal.exp (s j - Finset.univ.fold max bot s)

/-- The softmax's weight. -/
def wt (s : Fin 512 → EReal) (j : Fin 512) : EReal := Ideal.div (ex s j) (∑ j', ex s j')

/-- One row of one head: the weighted sum of the values. -/
def ctx (mask : Fin 512 → Bool) (q : Fin 64 → EReal) (k v : Fin 512 → Fin 64 → EReal) (d : Fin 64) : EReal :=
  ∑ j : Fin 512, wt (sc mask q k) j * v j d

/-- The mask of query row `r` at key `j`: their blocks of 64 agree, or agree modulo four. -/
def msk (r : Fin 2048) (j : Fin 512) : Bool := (r.val / 64 == j.val / 64) || (j.val / 64 % 4 == r.val / 64 % 4)

/-- The column of head `h`'s element `d`. -/
def hcol (h : Fin 32) (d : Fin 64) : Fin 2048 := ⟨64 * h.val + d.val, by omega⟩

end Cert.Spec

end
-- ==== Proof.HeadsKernelIdeal.lean ====
/-
# A group of heads at an index

What `head`, `heads`, `queries` and `grp` are at the ideal floats, one element at a time.
-/
module

public import proofs.«01_k».proof.Proof.GroupKernelIdeal
public import proofs.«01_k».proof.Proof.Spec

@[expose] public section

noncomputable section

namespace Cert.KernelIdealProof

open Cert.KernelIdeal Cert.KernelIdeal.Gen Cert.Spec
open Idealize.ShloMosaic

theorem scores_apply (mask : IVec S512x512 1) (q k : FVec Ideal S512x64 .bf16) (i j : Fin 512) :
    scores mask q k (ix2 i j) = sc (fun j => mask (ix2 i j) == 1#1) (fun d => q (ix2 i d)) (fun j d => k (ix2 j d)) j := by
  pointwise [scores, sc]
  rcases BitVec.eq_zero_or_eq_one (mask (ix2 i j)) with h | h <;> rw [h] <;> rfl

theorem expd_apply (s : FVec Ideal S512x512 .f32) (i j : Fin 512) :
    expd s (ix2 i j) = ex (fun j => s (ix2 i j)) j := by
  pointwise [expd, ex]
  rfl

theorem rowDiv_apply (e : FVec Ideal S512x512 .f32) (i j : Fin 512) :
    rowDiv e (ix2 i j) = Ideal.div (e (ix2 i j)) (∑ j', e (ix2 i j')) := by
  pointwise [rowDiv]

theorem head_apply (mask : IVec S512x512 1) (q k v : FVec Ideal S512x64 .bf16) (i : Fin 512) (d : Fin 64) :
    head mask q k v (ix2 i d)
      = ctx (fun j => mask (ix2 i j) == 1#1) (fun d => q (ix2 i d)) (fun j d => k (ix2 j d)) (fun j d => v (ix2 j d)) d := by
  pointwise [head, ctx, wt]
  have h : ∀ j, expd (scores mask q k) (ix2 i j)
      = ex (sc (fun j => mask (ix2 i j) == 1#1) (fun d => q (ix2 i d)) fun j d => k (ix2 j d)) j := fun j => by
    rw [expd_apply]
    exact congrArg (fun s => ex s j) (funext fun j => scores_apply mask q k i j)
  simp only [rowDiv_apply, h]

theorem slices_at (n : Fin 8) : S512x512.Slices ![0, 64 * n.val] S512x64 := by revert n; decide

/-- Head `n` of a group. -/
def headAt (mask : IVec S512x512 1) (q k v : FVec Ideal S512x512 .bf16) (n : Fin 8) : FVec Ideal S512x64 .bf16 :=
  head mask (extractStridedSlice S512x64 ![0, 64 * n.val] q (slices_at n)) (extractStridedSlice S512x64 ![0, 64 * n.val] k (slices_at n))
    (extractStridedSlice S512x64 ![0, 64 * n.val] v (slices_at n))

/-- The column of head `n`'s element `d` within a group. -/
def col (n : Fin 8) (d : Fin 64) : Fin 512 := ⟨64 * n.val + d.val, by omega⟩

theorem slice_apply (X : FVec Ideal S512x512 .bf16) (n : Fin 8) (i : Fin 512) (d : Fin 64) :
    extractStridedSlice S512x64 ![0, 64 * n.val] X (slices_at n) (ix2 i d) = X (ix2 i (col n d)) := by
  refine extractStridedSlice_apply _ _ _ _ _ fun a => ?_
  fin_cases a
  · exact (Nat.zero_add _).symm
  · rfl

theorem heads_apply (mask : IVec S512x512 1) (q k v : FVec Ideal S512x512 .bf16) (i : Fin 512) (n : Fin 8) (d : Fin 64) :
    heads mask q k v (ix2 i (col n d))
      = ctx (fun j => mask (ix2 i j) == 1#1) (fun d => q (ix2 i (col n d))) (fun j d => k (ix2 j (col n d))) (fun j d => v (ix2 j (col n d))) d := by
  have h : heads mask q k v = concatenate S512x512 1 (List.ofFn fun n : Fin 8 => (⟨S512x64, headAt mask q k v n⟩ : (s : Shape) × (s.Idx → EReal)))
      concatenates_S512x64_S512x64_S512x64_S512x64_S512x64_S512x64_S512x64_S512x64_S512x512_d1 := rfl
  refine (congrFun h _).trans ((concatenate_ofFn_apply (t := S512x512) (s₁ := S512x64) 1 (headAt mask q k v) _ rfl 64 rfl (ix2 i (col n d)) n ?_
    (ix2 i d) ?_ ?_).trans ?_)
  · show (64 * n.val + d.val) / 64 = n.val
    omega
  · show d.val = (64 * n.val + d.val) % 64
    omega
  · intro b hb
    fin_cases b
    · rfl
    · exact absurd rfl hb
  · rw [headAt, head_apply]
    simp only [slice_apply]

theorem queries_apply (x : FVec Ideal S512x768 .bf16) (wq : Vec Ideal S1x768x512 .bf16) (i r : Fin 512) :
    queries x wq (ix2 i r) = ∑ e : Fin 768, x (ix2 i e) * wq (ix3 0 e r) := by
  pointwise [queries]

theorem grp_apply (mask : IVec S512x512 1) (x : FVec Ideal S512x768 .bf16) (wq : Vec Ideal S1x768x512 .bf16) (k v : Vec Ideal S1x512x512 .bf16)
    (wo : Vec Ideal S1x512x768 .bf16) (acc : FVec Ideal S512x768 .f32) (i : Fin 512) (n : Fin 768) :
    grp mask x wq k v wo acc (ix2 i n) = acc (ix2 i n) + ∑ r : Fin 512,
      heads mask (queries x wq) (shapeCast S512x512 k shapeCasts_S1x512x512_S512x512) (shapeCast S512x512 v shapeCasts_S1x512x512_S512x512) (ix2 i r)
        * wo (ix3 0 r n) := by
  pointwise [grp]

end Cert.KernelIdealProof

end
-- ==== Proof.MaskKernelIdeal.lean ====
/-
# The kernel's mask at an index

Device `c`'s mask at its row `i` and key `j` is the mask of the whole array's row `512 c + i`.
-/
module

public import proofs.«01_k».proof.Proof.GroupKernelIdeal
public import proofs.«01_k».proof.Proof.Spec

@[expose] public section

noncomputable section

namespace Cert.KernelIdealProof

open Cert.KernelIdeal Cert.KernelIdeal.Gen Cert.Spec
open Idealize.ShloMosaic

/-- The whole array's row that is device `c`'s row `i`. -/
def grow (c : Dev nD) (i : Fin 512) : Fin 2048 := ⟨512 * c.val + i.val, by have := c.isLt; have : c.val < 4 := this; omega⟩

/-- The block of a query row as the body computes it. -/
def qbW (c : Dev nD) : IVec S512x512 32 := k0_pay6 rowIota (Scalar.muli (meWord c) 8#32) k0_pay3 k0_pay4 k0_pay5

theorem meWord_eq (c : Dev nD) : Scalar.muli (meWord c) 8#32 = BitVec.ofNat 32 (8 * c.val) := by
  revert c
  decide

theorem qbW_apply (c : Dev nD) (i j : Fin 512) : qbW c (ix2 i j) = BitVec.ofNat 32 (8 * c.val + i.val / 64) := by
  unfold qbW
  rw [meWord_eq]
  pointwise [k0_pay6, k0_pay3, k0_pay4, k0_pay5]
  refine (congrArg (IntOp.addi (BitVec.ofNat 32 (8 * c.val))) (a₂ := BitVec.ofNat 32 (i.val / 64)) ?_).trans ?_
  · clear j
    revert i
    decide +kernel
  · exact (BitVec.ofNat_add _ _).symm

theorem kbW_apply (i j : Fin 512) : k0_pay7 colIota (ix2 i j) = BitVec.ofNat 32 (j.val / 64) := by
  pointwise [k0_pay7]
  clear i
  revert j
  decide +kernel

theorem maskOf_apply (c : Dev nD) (i j : Fin 512) : maskOf c (ix2 i j) = BitVec.ofBool (msk (grow c i) j) := by
  have hq := qbW_apply c i j
  unfold qbW at hq
  pointwise [maskOf, k0_pay13, k0_pay8, k0_pay9, k0_pay10, k0_pay11, k0_pay12, hq, kbW_apply]
  have hm : msk (grow c i) j = ((8 * c.val + i.val / 64 == j.val / 64) || (j.val / 64 % 4 == (8 * c.val + i.val / 64) % 4)) := by
    have e : (grow c i).val / 64 = 8 * c.val + i.val / 64 := by
      show (512 * c.val + i.val) / 64 = _
      omega
    unfold msk
    rw [e]
  rw [hm]
  clear hm hq
  have ha : 8 * c.val + i.val / 64 < 32 := by have : c.val < 4 := c.isLt; omega
  have hb : j.val / 64 < 8 := by omega
  generalize 8 * c.val + i.val / 64 = a at ha ⊢
  generalize j.val / 64 = b at hb ⊢
  clear c i j
  revert b a
  decide +kernel

end Cert.KernelIdealProof

end
-- ==== Proof.RefMask.lean ====
/-
# The reference's mask

The mask that the reference computes, and its element at a query row and a key.
-/
module

public import proofs.«01_k».proof.Proof.Gen.ReferenceIdeal.Run
public import proofs.«01_k».proof.Proof.Spec

@[expose] public section

noncomputable section

namespace Cert.RefValue

open Cert.ReferenceIdeal Cert.ReferenceIdeal.Gen Cert.Spec
open Idealize.ShloMosaic Idealize.ShloMosaic.TcCoe

/-- The block of a query row. -/
def qb : IVec S2048x1 32 :=
  broadcastInDim S2048x1 ![0] bcast_S2048_S2048x1_0 (select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32)))))
/-- The block of a key. -/
def kb : IVec S1x512 32 :=
  broadcastInDim S1x512 ![1] bcast_S512_S1x512_1 (select (andi (cmpi .ne (signi (iotaInDim S512 32 0)) (broadcastInDim S512 ![] bcast_S_S512 (signi (id (constantI S_ 32 64#32))))) (cmpi .ne (Host.remsi (iotaInDim S512 32 0) (broadcastInDim S512 ![] bcast_S_S512 (id (constantI S_ 32 64#32)))) (broadcastInDim S512 ![] bcast_S_S512 (constantI S_ 32 0#32)))) (subi (Host.divsi (iotaInDim S512 32 0) (broadcastInDim S512 ![] bcast_S_S512 (id (constantI S_ 32 64#32)))) (broadcastInDim S512 ![] bcast_S_S512 (constantI S_ 32 1#32))) (Host.divsi (iotaInDim S512 32 0) (broadcastInDim S512 ![] bcast_S_S512 (id (constantI S_ 32 64#32)))))
/-- The modulus of the blocks. -/
def four : IVec S_ 32 :=
  select (cmpi .eq (id (constantI S_ 32 4#32)) (constantI S_ 32 0#32)) (constantI S_ 32 1#32) (id (constantI S_ 32 4#32))
/-- The blocks of the keys, modulo four. -/
def kbMod : IVec S1x512 32 :=
  select (andi (cmpi .ne (cmpi .slt (Host.remsi kb (broadcastInDim S1x512 ![] bcast_S_S1x512 four)) (broadcastInDim S1x512 ![] bcast_S_S1x512 (constantI S_ 32 0#32))) (broadcastInDim S1x512 ![] bcast_S_S1x512 (cmpi .slt four (constantI S_ 32 0#32)))) (cmpi .ne (Host.remsi kb (broadcastInDim S1x512 ![] bcast_S_S1x512 four)) (broadcastInDim S1x512 ![] bcast_S_S1x512 (constantI S_ 32 0#32)))) (addi (Host.remsi kb (broadcastInDim S1x512 ![] bcast_S_S1x512 four)) (broadcastInDim S1x512 ![] bcast_S_S1x512 four)) (Host.remsi kb (broadcastInDim S1x512 ![] bcast_S_S1x512 four))
/-- The blocks of the query rows, modulo four. -/
def qbMod : IVec S2048x1 32 :=
  select (andi (cmpi .ne (cmpi .slt (Host.remsi qb (broadcastInDim S2048x1 ![] bcast_S_S2048x1 four)) (broadcastInDim S2048x1 ![] bcast_S_S2048x1 (constantI S_ 32 0#32))) (broadcastInDim S2048x1 ![] bcast_S_S2048x1 (cmpi .slt four (constantI S_ 32 0#32)))) (cmpi .ne (Host.remsi qb (broadcastInDim S2048x1 ![] bcast_S_S2048x1 four)) (broadcastInDim S2048x1 ![] bcast_S_S2048x1 (constantI S_ 32 0#32)))) (addi (Host.remsi qb (broadcastInDim S2048x1 ![] bcast_S_S2048x1 four)) (broadcastInDim S2048x1 ![] bcast_S_S2048x1 four)) (Host.remsi qb (broadcastInDim S2048x1 ![] bcast_S_S2048x1 four))
/-- The mask. -/
def refMask : IVec S2048x512 1 :=
  ori (cmpi .eq (broadcastInDim S2048x512 ![0, 1] bcast_S2048x1_S2048x512_0_1 qb) (broadcastInDim S2048x512 ![0, 1] bcast_S1x512_S2048x512_0_1 kb)) (cmpi .eq (broadcastInDim S2048x512 ![0, 1] bcast_S1x512_S2048x512_0_1 kbMod) (broadcastInDim S2048x512 ![0, 1] bcast_S2048x1_S2048x512_0_1 qbMod))
/-- The rows with some key in reach. -/
def keep : IVec S2048 1 :=
  Host.reduce IntOp.ori refMask (constantI S_ 1 0#1) reducesTo_S2048x512_S2048_d1 h_S_
theorem qb_apply (r : Fin 2048) : qb (ix2 r 0) = BitVec.ofNat 32 (r.val / 64) := by
  pointwise [qb]
  revert r
  decide +kernel

theorem kb_apply (j : Fin 512) : kb (ix2 0 j) = BitVec.ofNat 32 (j.val / 64) := by
  pointwise [kb]
  revert j
  decide +kernel

theorem qbMod_apply (r : Fin 2048) : qbMod (ix2 r 0) = BitVec.ofNat 32 (r.val / 64 % 4) := by
  pointwise [qbMod, qb_apply, four]
  revert r
  decide +kernel

theorem kbMod_apply (j : Fin 512) : kbMod (ix2 0 j) = BitVec.ofNat 32 (j.val / 64 % 4) := by
  pointwise [kbMod, kb_apply, four]
  revert j
  decide +kernel

theorem refMask_apply (r : Fin 2048) (j : Fin 512) : refMask (ix2 r j) = BitVec.ofBool (msk r j) := by
  pointwise [refMask, qb_apply, kb_apply, qbMod_apply, kbMod_apply]
  have h : ∀ (a : Fin 32) (b : Fin 8), IntOp.ori (IntOp.cmpi .eq (BitVec.ofNat 32 a.val) (BitVec.ofNat 32 b.val))
      (IntOp.cmpi .eq (BitVec.ofNat 32 (b.val % 4)) (BitVec.ofNat 32 (a.val % 4)))
        = BitVec.ofBool ((a.val == b.val) || (b.val % 4 == a.val % 4)) := by decide +kernel
  exact h ⟨r.val / 64, by omega⟩ ⟨j.val / 64, by omega⟩

/-- An or over a finite set with a member that is one. -/
theorem fold_ori (f : Fin 512 → BitVec 1) (j : Fin 512) (h : f j = 1#1) : Finset.univ.fold IntOp.ori 0#1 f = 1#1 := by
  rw [← Finset.insert_erase (Finset.mem_univ j), Finset.fold_insert (Finset.notMem_erase j _), h]
  generalize Finset.fold IntOp.ori 0#1 f (Finset.univ.erase j) = w
  revert w
  decide

/-- Every row has a key in reach. -/
theorem keep_apply (r : Fin 2048) : keep (ix1 r) = 1#1 := by
  pointwise [keep]
  refine fold_ori _ ⟨64 * (r.val / 64 % 4), by omega⟩ ?_
  rw [refMask_apply]
  have h : msk r ⟨64 * (r.val / 64 % 4), by omega⟩ = true := by
    unfold msk
    rw [Bool.or_eq_true, beq_iff_eq, beq_iff_eq]
    right
    show 64 * (r.val / 64 % 4) / 64 % 4 = r.val / 64 % 4
    omega
  rw [h]
  rfl

end Cert.RefValue

end
-- ==== Proof.RefValue.lean ====
/-
# What the reference computes

The reference's result, its parts named — the scores, the weights, the context — and each at an index.
-/
module

public import proofs.«01_k».proof.Proof.RefMask

@[expose] public section

noncomputable section

namespace Cert.RefValue

open Cert.ReferenceIdeal Cert.ReferenceIdeal.Gen Cert.Spec
open Idealize.ShloMosaic Idealize.ShloMosaic.TcCoe

variable (x : FVec Ideal S2x2048x768 .f32) (wq : FVec Ideal S768x2048 .f32) (k v : FVec Ideal S2x512x32x64 .f32) (wo : FVec Ideal S2048x768 .f32)

/-- The queries. -/
def queries : FVec Ideal S2x2048x32x64 .f32 :=
  shapeCast _ (Host.dotGeneral dot_S2x2048x768_S768x2048_S2x2048x2048_2_0_01_1_n_n none x wq) shapeCasts_S2x2048x2048_S2x2048x32x64

/-- The scores. -/
def scores : FVec Ideal S2x32x2048x512 .f32 :=
  select (broadcastInDim S2x32x2048x512 ![0, 1, 2, 3] bcast_S1x1x2048x512_S2x32x2048x512_0_1_2_3 (broadcastInDim S1x1x2048x512 ![2, 3] bcast_S2048x512_S1x1x2048x512_2_3 refMask)) (mulf (Host.dotGeneral dot_S2x2048x32x64_S2x512x32x64_S2x32x2048x512_3_3_1_1_02_02 none (queries x wq) k) (broadcastInDim S2x32x2048x512 ![] bcast_S_S2x32x2048x512 (constant S_ .f32 0x3E000000#32))) (broadcastInDim S2x32x2048x512 ![] bcast_S_S2x32x2048x512 (id (constant S_ .f32 0xCE6E6B28#32)))

/-- The scores less their row's maximum, exponentiated. -/
def expd (s : FVec Ideal S2x32x2048x512 .f32) : FVec Ideal S2x32x2048x512 .f32 :=
  Host.exp (subf s (broadcastInDim S2x32x2048x512 ![0, 1, 2, 3] bcast_S2x32x2048x1_S2x32x2048x512_0_1_2_3 (broadcastInDim S2x32x2048x1 ![0, 1, 2] bcast_S2x32x2048_S2x32x2048x1_0_1_2 (Host.reduce FloatOps.maximumf s (constant S_ .f32 0xFF800000#32) reducesTo_S2x32x2048x512_S2x32x2048_d3 h_S_))))

/-- The weights. -/
def weights (e : FVec Ideal S2x32x2048x512 .f32) : FVec Ideal S2x32x2048x512 .f32 :=
  select (broadcastInDim S2x32x2048x512 ![0, 1, 2, 3] bcast_S1x1x2048x1_S2x32x2048x512_0_1_2_3 (broadcastInDim S1x1x2048x1 ![2] bcast_S2048_S1x1x2048x1_2 keep)) (Host.divf e (broadcastInDim S2x32x2048x512 ![0, 1, 2, 3] bcast_S2x32x2048x1_S2x32x2048x512_0_1_2_3 (select (broadcastInDim S2x32x2048x1 ![0, 1, 2, 3] bcast_S1x1x2048x1_S2x32x2048x1_0_1_2_3 (broadcastInDim S1x1x2048x1 ![2] bcast_S2048_S1x1x2048x1_2 keep)) (broadcastInDim S2x32x2048x1 ![0, 1, 2] bcast_S2x32x2048_S2x32x2048x1_0_1_2 (Host.reduceAdd e (constant S_ .f32 0x00000000#32) reducesTo_S2x32x2048x512_S2x32x2048_d3 h_S_)) (broadcastInDim S2x32x2048x1 ![] bcast_S_S2x32x2048x1 (id (constant S_ .f32 0x3F800000#32)))))) (broadcastInDim S2x32x2048x512 ![] bcast_S_S2x32x2048x512 (id (constant S_ .f32 0x00000000#32)))

/-- The context, the heads side by side. -/
def context (w : FVec Ideal S2x32x2048x512 .f32) : FVec Ideal S2x2048x2048 .f32 :=
  shapeCast _ (transpose S2x2048x32x64 [0, 3, 1, 2] (Host.dotGeneral dot_S2x512x32x64_S2x32x2048x512_S2x32x64x2048_1_3_3_2_02_01 none v w) transposes_S2x32x64x2048_S2x2048x32x64_0_3_1_2) shapeCasts_S2x2048x32x64_S2x2048x2048

/-- The result. -/
def out : FVec Ideal S2x2048x768 .f32 :=
  Host.dotGeneral dot_S2x2048x2048_S2048x768_S2x2048x768_2_0_01_1_n_n none (context v (weights (expd (scores x wq k)))) wo

theorem res_eq (m : (ℓ : Loc nD τ sig) → Buf (Elt Ideal) ℓ) (c : Dev nD) :
    Value.res_main_v39 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  rfl

theorem queries_apply (b : Fin 2) (r : Fin 2048) (h : Fin 32) (d : Fin 64) :
    queries x wq (ix4 b r h d) = ∑ e : Fin 768, x (ix3 b r e) * wq (ix2 e (hcol h d)) := by
  pointwise [queries]
  refine Finset.sum_congr rfl fun e _ => congrArg (fun i => x (ix3 b r e) * wq (ix2 e i)) (Fin.ext ?_)
  show h.val * 64 + d.val = 64 * h.val + d.val
  omega

theorem scores_apply (b : Fin 2) (h : Fin 32) (r : Fin 2048) (j : Fin 512) :
    scores x wq k (ix4 b h r j) = sc (msk r) (fun d => queries x wq (ix4 b r h d)) (fun j d => k (ix4 b j h d)) j := by
  pointwise [scores, sc]
  rw [refMask_apply]
  cases msk r j <;> rfl

theorem expd_apply (s : FVec Ideal S2x32x2048x512 .f32) (b : Fin 2) (h : Fin 32) (r : Fin 2048) (j : Fin 512) :
    expd s (ix4 b h r j) = ex (fun j => s (ix4 b h r j)) j := by
  pointwise [expd, ex]
  rfl

theorem weights_apply (e : FVec Ideal S2x32x2048x512 .f32) (b : Fin 2) (h : Fin 32) (r : Fin 2048) (j : Fin 512) :
    weights e (ix4 b h r j) = Ideal.div (e (ix4 b h r j)) (∑ j', e (ix4 b h r j')) := by
  pointwise [weights]
  rw [keep_apply]
  rfl

theorem context_apply (w : FVec Ideal S2x32x2048x512 .f32) (b : Fin 2) (r : Fin 2048) (h : Fin 32) (d : Fin 64) :
    context v w (ix3 b r (hcol h d)) = ∑ j : Fin 512, v (ix4 b j h d) * w (ix4 b h r j) := by
  pointwise [context]
  have e₁ : (hcol h d).val / 64 = h.val := by
    show (64 * h.val + d.val) / 64 = h.val
    omega
  have e₂ : (hcol h d).val % 64 = d.val := by
    show (64 * h.val + d.val) % 64 = d.val
    omega
  refine Finset.sum_congr rfl fun j _ => ?_
  have f₁ : ∀ p, (⟨(hcol h d).val / 64, p⟩ : Fin 32) = h := fun p => Fin.ext e₁
  have f₂ : ∀ p, (⟨(hcol h d).val % 64, p⟩ : Fin 64) = d := fun p => Fin.ext e₂
  rw [f₁, f₂]

/-- The context of one head at a row. -/
theorem context_ctx (b : Fin 2) (r : Fin 2048) (h : Fin 32) (d : Fin 64) :
    context v (weights (expd (scores x wq k))) (ix3 b r (hcol h d))
      = ctx (msk r) (fun d => ∑ e : Fin 768, x (ix3 b r e) * wq (ix2 e (hcol h d))) (fun j d => k (ix4 b j h d)) (fun j d => v (ix4 b j h d)) d := by
  rw [context_apply]
  unfold ctx wt
  refine Finset.sum_congr rfl fun j _ => ?_
  have hs : (fun j => scores x wq k (ix4 b h r j))
      = sc (msk r) (fun d => ∑ e : Fin 768, x (ix3 b r e) * wq (ix2 e (hcol h d))) (fun j d => k (ix4 b j h d)) := by
    funext j
    rw [scores_apply]
    simp only [queries_apply]
  rw [weights_apply, mul_comm]
  simp only [expd_apply, hs]

theorem out_apply (b : Fin 2) (r : Fin 2048) (n : Fin 768) :
    out x wq k v wo (ix3 b r n) = ∑ R : Fin 2048, context v (weights (expd (scores x wq k))) (ix3 b r R) * wo (ix2 R n) := by
  pointwise [out]

end Cert.RefValue

end
-- ==== Proof.ValueKernelIdeal.lean ====
/-
# The kernel's block of the result

Each group's step adds its 512 columns' share of the reference's last product; the four shares are the whole sum.
-/
module

public import proofs.«01_k».proof.Proof.HeadsKernelIdeal
public import proofs.«01_k».proof.Proof.MaskKernelIdeal
public import proofs.«01_k».proof.Proof.RefValue

@[expose] public section

noncomputable section

namespace Cert.KernelIdealProof

open Cert.KernelIdeal Cert.KernelIdeal.Gen Cert.Spec
open Cert.ReferenceIdeal (S2x2048x768 S768x2048 S2048x768 S2x2048x2048)
open Idealize.ShloMosaic

/-- Column `r` of group `g`, and head `n` of group `g`, in the whole array. -/
def gcol (g : Dev nD) (r : Fin 512) : Fin 2048 := ⟨512 * g.val + r.val, by have : g.val < 4 := g.isLt; omega⟩
def ghead (g : Dev nD) (n : Fin 8) : Fin 32 := ⟨8 * g.val + n.val, by have : g.val < 4 := g.isLt; omega⟩

theorem gcol_col (g : Dev nD) (n : Fin 8) (d : Fin 64) : gcol g (col n d) = hcol (ghead g n) d := by
  apply Fin.ext
  show 512 * g.val + (64 * n.val + d.val) = 64 * (8 * g.val + n.val) + d.val
  omega

theorem col_split (r : Fin 512) : ∃ (n : Fin 8) (d : Fin 64), r = col n d :=
  ⟨⟨r.val / 64, by omega⟩, ⟨r.val % 64, by omega⟩, Fin.ext (by show r.val = 64 * (r.val / 64) + r.val % 64; omega)⟩

theorem off1_eq (c : Dev nD) (r : Fin 4) : k0_off1 c (BitVec.ofNat 32 r.val) = ![0, 0, 512 * (back c r.val).val] := by
  revert c r
  decide
theorem off2_eq (c : Dev nD) (r : Fin 4) : k0_off2 c (BitVec.ofNat 32 r.val) = ![1, 0, 512 * (back c r.val).val] := by
  revert c r
  decide

theorem rowsAt_apply (x : FVec Ideal S2x512x768 .bf16) (b : Fin 2) (h : ∀ a, ![b.val, 0, 0] a + S1x512x768.size a ≤ S2x512x768.size a)
    (i : Fin 512) (e : Fin 768) :
    rowsAt (F := Ideal) x ![b.val, 0, 0] h (ix3 0 i e) = x (ix3 b i e) := by
  unfold rowsAt
  refine congrArg x (funext fun a => Fin.ext ?_)
  fin_cases a
  · rfl
  · show 0 + 1 * i.val = i.val
    omega
  · show 0 + 1 * e.val = e.val
    omega

theorem colsAt_apply (k : FVec Ideal S2x512x2048 .bf16) (b : Fin 2) (g : Dev nD) (off : Fin 3 → ℕ) (h : ∀ a, off a + S1x512x512.size a ≤ S2x512x2048.size a)
    (ho : off = ![b.val, 0, 512 * g.val]) (j r : Fin 512) :
    colsAt (F := Ideal) k off h (ix3 0 j r) = k (ix3 b j (gcol g r)) := by
  subst ho
  unfold colsAt
  refine congrArg k (funext fun a => Fin.ext ?_)
  fin_cases a
  · rfl
  · show 0 + 1 * j.val = j.val
    omega
  · show 512 * g.val + 1 * r.val = 512 * g.val + r.val
    omega

section
variable (X : FVec Ideal S2x2048x768 .f32) (Wq : FVec Ideal S768x2048 .f32) (K V : FVec Ideal S2x512x32x64 .f32) (Wo : FVec Ideal S2048x768 .f32)

/-- The reference's context. -/
def ctxW : FVec Ideal S2x2048x2048 .f32 := RefValue.context V (RefValue.weights (RefValue.expd (RefValue.scores X Wq K)))

/-- A group's heads are its columns of the reference's context. -/
theorem heads_ctx (b : Fin 2) (c g : Dev nD) (x : FVec Ideal S512x768 .bf16) (wq : FVec Ideal S768x512 .bf16) (k v : Vec Ideal S1x512x512 .bf16)
    (hx : ∀ i e, x (ix2 i e) = X (ix3 b (grow c i) e)) (hq : ∀ e r, wq (ix2 e r) = Wq (ix2 e (gcol g r)))
    (hk : ∀ j n d, k (ix3 0 j (col n d)) = K (ix4 b j (ghead g n) d)) (hv : ∀ j n d, v (ix3 0 j (col n d)) = V (ix4 b j (ghead g n) d)) (i r : Fin 512) :
    heads (maskOf c) (Cert.KernelIdealProof.queries x (liftQ (F := Ideal) wq)) (shapeCast S512x512 k shapeCasts_S1x512x512_S512x512)
      (shapeCast S512x512 v shapeCasts_S1x512x512_S512x512) (ix2 i r) = ctxW X Wq K V (ix3 b (grow c i) (gcol g r)) := by
  obtain ⟨n, d, rfl⟩ := col_split r
  have hc : ∀ (w : Vec Ideal S1x512x512 .bf16) (j r : Fin 512), shapeCast S512x512 w shapeCasts_S1x512x512_S512x512 (ix2 j r) = w (ix3 0 j r) := by
    intro w j r
    pointwise []
  have hl : ∀ (e : Fin 768) (r : Fin 512), (liftQ (F := Ideal) wq (ix3 0 e r) : EReal) = wq (ix2 e r) := by
    intro e r
    pointwise [liftQ]
  have hm : ∀ j, (maskOf c (ix2 i j) == 1#1) = msk (grow c i) j := fun j => by
    rw [maskOf_apply]
    cases msk (grow c i) j <;> rfl
  rw [heads_apply, gcol_col]
  refine Eq.trans ?_ (RefValue.context_ctx X Wq K V b (grow c i) (ghead g n) d).symm
  simp only [queries_apply, hc, hl, hm, hx, hq, hk, hv, gcol_col]

/-- A group's step at an element. -/
theorem grp_share (b : Fin 2) (c g : Dev nD) (x : FVec Ideal S512x768 .bf16) (wq : FVec Ideal S768x512 .bf16) (k v : Vec Ideal S1x512x512 .bf16)
    (wo : FVec Ideal S512x768 .bf16) (acc : FVec Ideal S512x768 .f32)
    (hx : ∀ i e, x (ix2 i e) = X (ix3 b (grow c i) e)) (hq : ∀ e r, wq (ix2 e r) = Wq (ix2 e (gcol g r)))
    (hk : ∀ j n d, k (ix3 0 j (col n d)) = K (ix4 b j (ghead g n) d)) (hv : ∀ j n d, v (ix3 0 j (col n d)) = V (ix4 b j (ghead g n) d))
    (ho : ∀ r n, wo (ix2 r n) = Wo (ix2 (gcol g r) n)) (i : Fin 512) (n : Fin 768) :
    grp (maskOf c) x (liftQ (F := Ideal) wq) k v (liftO (F := Ideal) wo) acc (ix2 i n)
      = acc (ix2 i n) + ∑ r : Fin 512, ctxW X Wq K V (ix3 b (grow c i) (gcol g r)) * Wo (ix2 (gcol g r) n) := by
  have hl : ∀ (r : Fin 512), (liftO (F := Ideal) wo (ix3 0 r n) : EReal) = wo (ix2 r n) := by
    intro r
    pointwise [liftO]
  rw [grp_apply]
  refine congrArg (acc (ix2 i n) + ·) (Finset.sum_congr rfl fun r _ => ?_)
  rw [heads_ctx X Wq K V b c g x wq k v hx hq hk hv i r, hl, ho]

variable (wq : Dev nD → Vec Ideal S768x512 .bf16) (wo : Dev nD → Vec Ideal S512x768 .bf16)
  (x : FVec Ideal S2x512x768 .bf16) (k v : FVec Ideal S2x512x2048 .bf16) (c : Dev nD)
  (hx : ∀ b i e, x (ix3 b i e) = X (ix3 b (grow c i) e)) (hq : ∀ g e r, wq g (ix2 e r) = Wq (ix2 e (gcol g r)))
  (hk : ∀ b j h d, k (ix3 b j (hcol h d)) = K (ix4 b j h d)) (hv : ∀ b j h d, v (ix3 b j (hcol h d)) = V (ix4 b j h d))
  (ho : ∀ g r n, wo g (ix2 r n) = Wo (ix2 (gcol g r) n))
include hx hq hk hv ho

theorem step0_share (r : Fin 4) (acc : FVec Ideal S512x768 .f32) (i : Fin 512) (n : Fin 768) :
    step0 (F := Ideal) wq wo x k v c r acc (ix2 i n) = acc (ix2 i n)
      + ∑ s : Fin 512, ctxW X Wq K V (ix3 0 (grow c i) (gcol (back c r.val) s)) * Wo (ix2 (gcol (back c r.val) s) n) := by
  refine grp_share X Wq K V Wo 0 c (back c r.val) _ _ _ _ _ acc ?_ (hq _) ?_ ?_ (ho _) i n
  · intro i e
    refine Eq.trans ?_ ((rowsAt_apply x 0 inb_S2x512x768_S1x512x768_0_0_0 i e).trans (hx 0 i e))
    pointwise []
  · intro j n d
    rw [colsAt_apply k 0 (back c r.val) _ _ (off1_eq c r), gcol_col, hk]
  · intro j n d
    rw [colsAt_apply v 0 (back c r.val) _ _ (off1_eq c r), gcol_col, hv]

theorem step1_share (r : Fin 4) (acc : FVec Ideal S512x768 .f32) (i : Fin 512) (n : Fin 768) :
    step1 (F := Ideal) wq wo x k v c r acc (ix2 i n) = acc (ix2 i n)
      + ∑ s : Fin 512, ctxW X Wq K V (ix3 1 (grow c i) (gcol (back c r.val) s)) * Wo (ix2 (gcol (back c r.val) s) n) := by
  refine grp_share X Wq K V Wo 1 c (back c r.val) _ _ _ _ _ acc ?_ (hq _) ?_ ?_ (ho _) i n
  · intro i e
    refine Eq.trans ?_ ((rowsAt_apply x 1 inb_S2x512x768_S1x512x768_1_0_0 i e).trans (hx 1 i e))
    pointwise []
  · intro j n d
    rw [colsAt_apply k 1 (back c r.val) _ _ (off2_eq c r), gcol_col, hk]
  · intro j n d
    rw [colsAt_apply v 1 (back c r.val) _ _ (off2_eq c r), gcol_col, hv]

omit hx hq hk hv ho in
/-- A sum over the 2048 columns, group by group in the order in which device `c` meets them. -/
theorem sum_groups (f : Fin 2048 → EReal) : ∑ R : Fin 2048, f R
    = ((∑ s, f (gcol (back c 0) s) + ∑ s, f (gcol (back c 1) s)) + ∑ s, f (gcol (back c 2) s)) + ∑ s, f (gcol (back c 3) s) := by
  have h : ∑ R : Fin 2048, f R = ∑ g : Dev nD, ∑ s : Fin 512, f (gcol g s) := by
    rw [← Fintype.sum_prod_type']
    refine (Fintype.sum_equiv (finProdFinEquiv (m := 4) (n := 512)) _ _ fun p => congrArg f (Fin.ext ?_)).symm
    show 512 * p.1.val + p.2.val = p.2.val + 512 * p.1.val
    omega
  rw [h]
  generalize hS : (fun g : Dev nD => ∑ s : Fin 512, f (gcol g s)) = S
  have hS' : ∀ g, ∑ s : Fin 512, f (gcol g s) = S g := fun g => congrFun hS g
  simp only [hS']
  show ∑ g : Fin 4, S g = _
  rw [Fin.sum_univ_four]
  clear hS hS' h
  fin_cases c
  · show S 0 + S 1 + S 2 + S 3 = S 0 + S 3 + S 2 + S 1
    abel
  · show S 0 + S 1 + S 2 + S 3 = S 1 + S 0 + S 3 + S 2
    abel
  · show S 0 + S 1 + S 2 + S 3 = S 2 + S 1 + S 0 + S 3
    abel
  · show S 0 + S 1 + S 2 + S 3 = S 3 + S 2 + S 1 + S 0
    abel

/-- The kernel's block is the reference's result at the device's rows. -/
theorem outV_eq (b : Fin 2) (i : Fin 512) (n : Fin 768) :
    outV (accOf (F := Ideal) wq wo x k v c) (ix3 b i n) = RefValue.out X Wq K V Wo (ix3 b (grow c i) n) := by
  have hz : zeroAcc (F := Ideal) (ix2 i n) = 0 := by
    pointwise [zeroAcc]
  rw [RefValue.out_apply]
  refine Eq.trans ?_ (sum_groups c fun R => ctxW X Wq K V (ix3 b (grow c i) R) * Wo (ix2 R n)).symm
  have hi : (fun j => (ix3 b i n : S2x512x768.Idx) j.succ : S512x768.Idx) = ix2 i n := by
    funext a
    fin_cases a <;> rfl
  show accOf (F := Ideal) wq wo x k v c b (fun j => (ix3 b i n : S2x512x768.Idx) j.succ) = _
  rw [hi]
  fin_cases b
  · show step0 (F := Ideal) wq wo x k v c 3 (step0 wq wo x k v c 2 (step0 wq wo x k v c 1 (step0 wq wo x k v c 0 zeroAcc))) (ix2 i n) = _
    simp only [step0_share X Wq K V Wo wq wo x k v c hx hq hk hv ho, hz, zero_add]
    rfl
  · show step1 (F := Ideal) wq wo x k v c 3 (step1 wq wo x k v c 2 (step1 wq wo x k v c 1 (step1 wq wo x k v c 0 zeroAcc))) (ix2 i n) = _
    simp only [step1_share X Wq K V Wo wq wo x k v c hx hq hk hv ho, hz, zero_add]
    rfl

end

end Cert.KernelIdealProof

end
-- ==== Proof.ResultKernelIdeal.lean ====
/-
# The result of the launch

What the region finds in its windows, read off the arguments; what it leaves in the result; and a device's block of an
array at an index.
-/
module

public import proofs.«01_k».proof.Proof.ValueKernelIdeal
public import proofs.«01_k».proof.Proof.RegionKernelIdeal

@[expose] public section

noncomputable section

namespace Cert.KernelIdealProof

open Cert.KernelIdeal Cert.KernelIdeal.Gen Cert.Spec
open Cert.ReferenceIdeal (S2x2048x768 S768x2048 S2048x768)
open Idealize.ShloMosaic Idealize.ShloMosaic.TcCoe Idealize.ShloMosaic.Pipeline Idealize.ShloMosaic.StableHlo

section Windows

variable {F : FTy → Type} [FloatOps F]
variable (m : (ℓ : Loc nD τ sig) → Buf (Elt F) ℓ) (c : Dev nD)

/-! ## Each window's one block is its whole array -/

/-- The one block of each window begins at zero on every axis. -/
theorem offset_zero : ∀ w : Fin cfg0.W, (fun a => (cfg0.win w).index t0_0 a * (cfg0.win w).size a) = fun _ => 0 := by
  intro w
  funext a
  revert w a
  decide

theorem read0 (X : main_v5.ty.Contents (Elt F)) : ((cfg0.win 0).blk t0_0).view.read (Elt F) X = X :=
  Memref.read_access_unit_zero (Elt F) main_v5 (offset_zero 0) (fun a => by rw [congrFun (offset_zero 0) a]; simp) X
theorem read1 (X : main_v6.ty.Contents (Elt F)) : ((cfg0.win 1).blk t0_0).view.read (Elt F) X = X :=
  Memref.read_access_unit_zero (Elt F) main_v6 (offset_zero 1) (fun a => by rw [congrFun (offset_zero 1) a]; simp) X
theorem read2 (X : main_v2.ty.Contents (Elt F)) : ((cfg0.win 2).blk t0_0).view.read (Elt F) X = X :=
  Memref.read_access_unit_zero (Elt F) main_v2 (offset_zero 2) (fun a => by rw [congrFun (offset_zero 2) a]; simp) X
theorem read3 (X : main_v4.ty.Contents (Elt F)) : ((cfg0.win 3).blk t0_0).view.read (Elt F) X = X :=
  Memref.read_access_unit_zero (Elt F) main_v4 (offset_zero 3) (fun a => by rw [congrFun (offset_zero 3) a]; simp) X
theorem read4 (X : main_v7.ty.Contents (Elt F)) : ((cfg0.win 4).blk t0_0).view.read (Elt F) X = X :=
  Memref.read_access_unit_zero (Elt F) main_v7 (offset_zero 4) (fun a => by rw [congrFun (offset_zero 4) a]; simp) X
theorem read5 (X : main_v8.ty.Contents (Elt F)) : ((cfg0.win 5).blk t0_0).view.read (Elt F) X = X :=
  Memref.read_access_unit_zero (Elt F) main_v8 (offset_zero 5) (fun a => by rw [congrFun (offset_zero 5) a]; simp) X

/-- The region leaves the output's block in the result. -/
theorem arrAt_out : (dat m c).arrAt 5 cfg0.N = res m c := by
  refine (dat m c).arrAt_eq_of_cover 5 (res m c) (fun t _ => ?_) (fun i => ⟨t0_0, flush0_5 _, ?_⟩)
  · rcases fin_N0 t with rfl
    exact (read5 (res m c)).symm
  · show i ∈ ((View.whole main_v8).slice (win0_5.rect t0_0)).set
    rw [View.set_slice_whole, Rect.mem_set_unit]
    intro a
    have e : ∀ a, win0_5.index t0_0 a * win0_5.size a = 0 ∧ win0_5.xsize (grid0.coords t0_0) a = main_v8.ty.shape.size a := by
      intro a; fin_cases a <;> decide
    show win0_5.index t0_0 a * win0_5.size a ≤ (i a : Nat) ∧ (i a : Nat) < win0_5.index t0_0 a * win0_5.size a + win0_5.xsize (grid0.coords t0_0) a
    rw [(e a).1, (e a).2, Nat.zero_add]
    exact ⟨Nat.zero_le _, (i a).isLt⟩

/-! ## What the host operations leave in the windows' arrays -/

theorem V_main_v5 : V m c main_v5
    = (truncf .bf16 (m ((c : Thread nD τ).loc main_arg0) : S2x512x768.Idx → F .f32) bitsLt_bf16_f32 : FVec F S2x512x768 .bf16) := by
  show StableHlo.after hostOps0 (fun b => m (c, b)) _ = _
  after_results
theorem V_main_v6 : V m c main_v6
    = (truncf .bf16 (m ((c : Thread nD τ).loc main_arg1) : S768x512.Idx → F .f32) bitsLt_bf16_f32 : FVec F S768x512 .bf16) := by
  show StableHlo.after hostOps0 (fun b => m (c, b)) _ = _
  after_results
theorem V_main_v7 : V m c main_v7
    = (truncf .bf16 (m ((c : Thread nD τ).loc main_arg4) : S512x768.Idx → F .f32) bitsLt_bf16_f32 : FVec F S512x768 .bf16) := by
  show StableHlo.after hostOps0 (fun b => m (c, b)) _ = _
  after_results
theorem V_main_v2 : V m c main_v2
    = (truncf .bf16 (shapeCast S2x512x2048 (m ((c : Thread nD τ).loc main_arg2) : S2x512x32x64.Idx → F .f32) shapeCasts_S2x512x32x64_S2x512x2048) bitsLt_bf16_f32 : FVec F S2x512x2048 .bf16) := by
  show StableHlo.after hostOps0 (fun b => m (c, b)) _ = _
  after_results
  rfl
theorem V_main_v4 : V m c main_v4
    = (truncf .bf16 (shapeCast S2x512x2048 (m ((c : Thread nD τ).loc main_arg3) : S2x512x32x64.Idx → F .f32) shapeCasts_S2x512x32x64_S2x512x2048) bitsLt_bf16_f32 : FVec F S2x512x2048 .bf16) := by
  show StableHlo.after hostOps0 (fun b => m (c, b)) _ = _
  after_results
  rfl

end Windows

section Ideal

variable (m : (ℓ : Loc nD τ sig) → Buf (Elt Ideal) ℓ) (c : Dev nD)

theorem xv_apply (b : Fin 2) (i : Fin 512) (e : Fin 768) :
    (xv m c : FVec Ideal S2x512x768 .bf16) (ix3 b i e) = (m ((c : Thread nD τ).loc main_arg0) : FVec Ideal S2x512x768 .f32) (ix3 b i e) := by
  rw [show xv m c = _ from (read0 _).trans (V_main_v5 m c)]
  pointwise []

theorem wqv_apply (e : Fin 768) (r : Fin 512) :
    wqv m c (ix2 e r) = (m ((c : Thread nD τ).loc main_arg1) : FVec Ideal S768x512 .f32) (ix2 e r) := by
  rw [show wqv m c = _ from (read1 _).trans (V_main_v6 m c)]
  pointwise []

theorem wov_apply (r : Fin 512) (n : Fin 768) :
    wov m c (ix2 r n) = (m ((c : Thread nD τ).loc main_arg4) : FVec Ideal S512x768 .f32) (ix2 r n) := by
  rw [show wov m c = _ from (read4 _).trans (V_main_v7 m c)]
  pointwise []

theorem kv_apply (b : Fin 2) (j : Fin 512) (h : Fin 32) (d : Fin 64) :
    (kv m c : FVec Ideal S2x512x2048 .bf16) (ix3 b j (hcol h d)) = (m ((c : Thread nD τ).loc main_arg2) : FVec Ideal S2x512x32x64 .f32) (ix4 b j h d) := by
  rw [show kv m c = _ from (read2 _).trans (V_main_v2 m c)]
  pointwise [hcol]

theorem vv_apply (b : Fin 2) (j : Fin 512) (h : Fin 32) (d : Fin 64) :
    (vv m c : FVec Ideal S2x512x2048 .bf16) (ix3 b j (hcol h d)) = (m ((c : Thread nD τ).loc main_arg3) : FVec Ideal S2x512x32x64 .f32) (ix4 b j h d) := by
  rw [show vv m c = _ from (read3 _).trans (V_main_v4 m c)]
  pointwise [hcol]

end Ideal

/-! ## A device's block of an array at an index -/

theorem block_rows (c : Dev nD) (X : S2x2048x768.Idx → EReal) (b : Fin 2) (i : Fin 512) (n : Fin 768) :
    (Layout.block ⟨3, ![2, 512, 768]⟩ ⟨3, ![2, 2048, 768]⟩ 1 4 c X) (ix3 b i n) = X (ix3 b (grow c i) n) := by
  rw [Layout.block_apply]
  refine congrArg X (funext fun a => Fin.ext ?_)
  rw [Layout.Tiles.idx_val]
  fin_cases a
  · rfl
  · show c.val * 512 + i.val = 512 * c.val + i.val
    omega
  · rfl

theorem block_cols (c : Dev nD) (X : S768x2048.Idx → EReal) (e : Fin 768) (r : Fin 512) :
    (Layout.block ⟨2, ![768, 512]⟩ ⟨2, ![768, 2048]⟩ 1 4 c X) (ix2 e r) = X (ix2 e (gcol c r)) := by
  rw [Layout.block_apply]
  refine congrArg X (funext fun a => Fin.ext ?_)
  rw [Layout.Tiles.idx_val]
  fin_cases a
  · rfl
  · show c.val * 512 + r.val = 512 * c.val + r.val
    omega

theorem block_heads (c : Dev nD) (X : S2048x768.Idx → EReal) (r : Fin 512) (n : Fin 768) :
    (Layout.block ⟨2, ![512, 768]⟩ ⟨2, ![2048, 768]⟩ 0 4 c X) (ix2 r n) = X (ix2 (gcol c r) n) := by
  rw [Layout.block_apply]
  refine congrArg X (funext fun a => Fin.ext ?_)
  rw [Layout.Tiles.idx_val]
  fin_cases a
  · show c.val * 512 + r.val = 512 * c.val + r.val
    omega
  · rfl

/-- What device `c` writes is its block of the reference's result, when each device holds its blocks of the arguments. -/
theorem res_block (m : (ℓ : Loc nD τ sig) → Buf (Elt Ideal) ℓ)
    (X : FVec Ideal S2x2048x768 .f32) (Wq : FVec Ideal S768x2048 .f32) (K V : FVec Ideal S2x512x32x64 .f32) (Wo : FVec Ideal S2048x768 .f32)
    (h0 : ∀ c : Dev nD, m ((c : Thread nD τ).loc main_arg0) = Layout.block ⟨3, ![2, 512, 768]⟩ ⟨3, ![2, 2048, 768]⟩ 1 4 c X)
    (h1 : ∀ c : Dev nD, m ((c : Thread nD τ).loc main_arg1) = Layout.block ⟨2, ![768, 512]⟩ ⟨2, ![768, 2048]⟩ 1 4 c Wq)
    (h2 : ∀ c : Dev nD, m ((c : Thread nD τ).loc main_arg2) = K) (h3 : ∀ c : Dev nD, m ((c : Thread nD τ).loc main_arg3) = V)
    (h4 : ∀ c : Dev nD, m ((c : Thread nD τ).loc main_arg4) = Layout.block ⟨2, ![512, 768]⟩ ⟨2, ![2048, 768]⟩ 0 4 c Wo)
    (c : Dev nD) :
    res m c = Layout.block ⟨3, ![2, 512, 768]⟩ ⟨3, ![2, 2048, 768]⟩ 1 4 c (RefValue.out X Wq K V Wo) := by
  funext y
  obtain ⟨b, i, n, rfl⟩ : ∃ (b : Fin 2) (i : Fin 512) (n : Fin 768), y = ix3 b i n :=
    ⟨y 0, y 1, y 2, by funext a; fin_cases a <;> rfl⟩
  refine Eq.trans ?_ (block_rows c _ b i n).symm
  refine outV_eq X Wq K V Wo (wqv m) (wov m) (xv m c) (kv m c) (vv m c) c ?_ ?_ ?_ ?_ ?_ b i n
  · intro b i e
    exact (xv_apply m c b i e).trans ((congrFun (h0 c) (ix3 b i e)).trans (block_rows c X b i e))
  · intro g e r
    exact (wqv_apply m g e r).trans ((congrFun (h1 g) (ix2 e r)).trans (block_cols g Wq e r))
  · intro b j h d
    exact (kv_apply m c b j h d).trans (congrFun (h2 c) (ix4 b j h d))
  · intro b j h d
    exact (vv_apply m c b j h d).trans (congrFun (h3 c) (ix4 b j h d))
  · intro g r n
    exact (wov_apply m g r n).trans ((congrFun (h4 g) (ix2 r n)).trans (block_heads g Wo r n))

end Cert.KernelIdealProof

end
-- ==== Proof.lean ====
module

public import proofs.«01_k».proof.Defs
public import proofs.«01_k».proof.Proof.LaunchKernel
public import proofs.«01_k».proof.Proof.LaunchKernelIdeal
public import proofs.«01_k».proof.Proof.ResultKernelIdeal
public import proofs.«01_k».proof.Proof.Gen.ReferenceIdeal.Run

@[expose] public section

noncomputable section

namespace Cert.Proof

open Idealize.ShloMosaic Idealize.ShloMosaic.TcCoe Idealize.SL.Sem

/-- The program at the machine's floats: the arguments kept, every counter back at zero. -/
theorem frame_kernel : quiescent_Kernel := fun m g _ =>
  (θ_run _ _ _).mono (fun _ h => ⟨fun c =>
    ⟨((h.1 c).2 Cert.Kernel.main_arg0 (by decide) (by decide)).trans (Cert.Kernel.Gen.V_main_arg0 m c),
     ((h.1 c).2 Cert.Kernel.main_arg1 (by decide) (by decide)).trans (Cert.Kernel.Gen.V_main_arg1 m c),
     ((h.1 c).2 Cert.Kernel.main_arg2 (by decide) (by decide)).trans (Cert.Kernel.Gen.V_main_arg2 m c),
     ((h.1 c).2 Cert.Kernel.main_arg3 (by decide) (by decide)).trans (Cert.Kernel.Gen.V_main_arg3 m c),
     ((h.1 c).2 Cert.Kernel.main_arg4 (by decide) (by decide)).trans (Cert.Kernel.Gen.V_main_arg4 m c)⟩, h.2⟩)
    (Cert.KernelProof.run_main (F := Bits) m g)

/-- The idealized program at the ideal floats: the arguments kept, every counter back at zero. -/
theorem frame_ideal : quiescent_KernelIdeal := fun m g _ =>
  (θ_run _ _ _).mono (fun _ h => ⟨fun c =>
    ⟨((h.1 c).2 Cert.KernelIdeal.main_arg0 (by decide) (by decide)).trans (Cert.KernelIdeal.Gen.V_main_arg0 m c),
     ((h.1 c).2 Cert.KernelIdeal.main_arg1 (by decide) (by decide)).trans (Cert.KernelIdeal.Gen.V_main_arg1 m c),
     ((h.1 c).2 Cert.KernelIdeal.main_arg2 (by decide) (by decide)).trans (Cert.KernelIdeal.Gen.V_main_arg2 m c),
     ((h.1 c).2 Cert.KernelIdeal.main_arg3 (by decide) (by decide)).trans (Cert.KernelIdeal.Gen.V_main_arg3 m c),
     ((h.1 c).2 Cert.KernelIdeal.main_arg4 (by decide) (by decide)).trans (Cert.KernelIdeal.Gen.V_main_arg4 m c)⟩, h.2⟩)
    (Cert.KernelIdealProof.run_main (F := Ideal) m g)

/-- The reference has no semaphore: its counters never move. -/
theorem frame_reference : quiescent_ReferenceIdeal := fun m g _ =>
  (θ_run _ _ _).mono (fun r h => ⟨fun c => (h c).2, sem_eq_zero_of_no_sems (by decide) r.2⟩)
    (Cert.ReferenceIdeal.Value.run (F := Ideal) m g)

/-- The two agree at the ideal floats: each device ends with its block of the reference's result. -/
theorem agree : algebraic_KernelIdeal_ReferenceIdeal := fun m g m' g' _ hargs =>
  ⟨Cert.ReferenceIdeal.Value.res_main_v39 m' 0,
    (θ_run _ _ _).mono (fun _ h c =>
      ⟨((h.1 c).1.trans (Cert.KernelIdealProof.arrAt_out m c)).trans
        ((Cert.KernelIdealProof.res_block m _ _ _ _ _ (fun c => (hargs c).1) (fun c => (hargs c).2.1)
          (fun c => (hargs c).2.2.1) (fun c => (hargs c).2.2.2.1) (fun c => (hargs c).2.2.2.2) c).trans
          (by rw [Cert.RefValue.res_eq])),
       ((h.1 c).2 Cert.KernelIdeal.main_arg0 (by decide) (by decide)).trans (Cert.KernelIdeal.Gen.V_main_arg0 m c),
       ((h.1 c).2 Cert.KernelIdeal.main_arg1 (by decide) (by decide)).trans (Cert.KernelIdeal.Gen.V_main_arg1 m c),
       ((h.1 c).2 Cert.KernelIdeal.main_arg2 (by decide) (by decide)).trans (Cert.KernelIdeal.Gen.V_main_arg2 m c),
       ((h.1 c).2 Cert.KernelIdeal.main_arg3 (by decide) (by decide)).trans (Cert.KernelIdeal.Gen.V_main_arg3 m c),
       ((h.1 c).2 Cert.KernelIdeal.main_arg4 (by decide) (by decide)).trans (Cert.KernelIdeal.Gen.V_main_arg4 m c)⟩)
      (Cert.KernelIdealProof.run_main (F := Ideal) m g),
    (θ_run _ _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts,
    frame_kernel, frame_ideal, frame_reference, trivial, agree⟩

end Cert.Proof

end
